-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x192x4096 : Shape := ⟨3, ![16, 192, 4096]⟩
abbrev S32768 : Shape := ⟨1, ![32768]⟩
abbrev S12582912 : Shape := ⟨1, ![12582912]⟩
abbrev S16384 : Shape := ⟨1, ![16384]⟩
abbrev S2 : Shape := ⟨1, ![2]⟩
abbrev S_ : Shape := ⟨0, ![]⟩
abbrev S1 : Shape := ⟨1, ![1]⟩
abbrev S16 : Shape := ⟨1, ![16]⟩
abbrev S16x192x64x64 : Shape := ⟨4, ![16, 192, 64, 64]⟩

abbrev nBuf : Table → Nat
  | .hbm => 5
  | .local .scVector .vmem => 4
  | _ => 0

abbrev bufTy : (tb : Table) → Fin (nBuf tb) → BufTy
  | .hbm, ⟨0, _⟩ => ⟨S16x192x4096, .f32⟩
  | .hbm, ⟨1, _⟩ => ⟨S32768, .i32⟩
  | .hbm, ⟨2, _⟩ => ⟨S12582912, .f32⟩
  | .hbm, ⟨3, _⟩ => ⟨S12582912, .f32⟩
  | .hbm, ⟨4, _⟩ => ⟨S16x192x64x64, .f32⟩
  | .local .scVector .vmem, ⟨0, _⟩ => ⟨S16384, .i32⟩
  | .local .scVector .vmem, ⟨1, _⟩ => ⟨S16384, .i32⟩
  | .local .scVector .vmem, ⟨2, _⟩ => ⟨S32768, .f32⟩
  | .local .scVector .vmem, ⟨3, _⟩ => ⟨S32768, .f32⟩
  | _, _ => ⟨S16x192x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_c_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c4096_i32 : BitVec 32 := 4096#32
  let v3 : BitVec 32 := Scalar.muli v2 c4096_i32
  let c0_i32 : BitVec 32 := 0#32
  let v4 : BitVec 32 := Scalar.addi v3 c0_i32
  ![v4.toNat]
@[reducible] def k0_t1_loop : Scf.Loop 32 :=
  let c0_i32_3 : BitVec 32 := 0#32
  let c12_i32 : BitVec 32 := 12#32
  let v11 : BitVec 32 := Scalar.addi c0_i32_3 c12_i32
  let c1_i32 : BitVec 32 := 1#32
  ⟨c0_i32_3, v11, c1_i32⟩
def k0_cond1 (k0_t1 : Fin k0_t1_loop.trips) : BitVec 1 :=
  let c0_i32_15 : BitVec 32 := 0#32
  let c0_i32_3 : BitVec 32 := 0#32
  let c1_i32 : BitVec 32 := 1#32
  let arg11 : BitVec 32 := Scf.iv c0_i32_3 c1_i32 k0_t1
  let c2_i32_14 : BitVec 32 := 2#32
  let v24 : BitVec 32 := Scalar.muli arg11 c2_i32_14
  let v25 : BitVec 32 := Scalar.addi c0_i32_15 v24
  let c0_i32_16 : BitVec 32 := 0#32
  let v26 : BitVec 32 := Scalar.addi v25 c0_i32_16
  let c1_i32_17 : BitVec 32 := 1#32
  let v27 : BitVec 32 := Scalar.addi v26 c1_i32_17
  let c24_i32 : BitVec 32 := 24#32
  let v28 : BitVec 1 := Scalar.cmpi .slt v27 c24_i32
  let v29 : BitVec 32 := Scalar.extui v28
  let c0_i32_18 : BitVec 32 := 0#32
  let v30 : BitVec 1 := Scalar.cmpi .ne v29 c0_i32_18
  v30

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c4096_i32 : BitVec 32 := 4096#32
  let v3 : BitVec 32 := Scalar.muli v2 c4096_i32
  let c0_i32_15 : BitVec 32 := 0#32
  let c0_i32_3 : BitVec 32 := 0#32
  let c1_i32 : BitVec 32 := 1#32
  let arg11 : BitVec 32 := Scf.iv c0_i32_3 c1_i32 k0_t1
  let c2_i32_14 : BitVec 32 := 2#32
  let v24 : BitVec 32 := Scalar.muli arg11 c2_i32_14
  let v25 : BitVec 32 := Scalar.addi c0_i32_15 v24
  let c0_i32_16 : BitVec 32 := 0#32
  let v26 : BitVec 32 := Scalar.addi v25 c0_i32_16
  let c1_i32_52 : BitVec 32 := 1#32
  let v72 : BitVec 32 := Scalar.addi v26 c1_i32_52
  let c16384_i32_53 : BitVec 32 := 16384#32
  let v73 : BitVec 32 := Scalar.muli v72 c16384_i32_53
  let v74 : BitVec 32 := Scalar.addi v3 v73
  ![v74.toNat]
@[reducible] def k0_t2_loop : Scf.Loop 32 :=
  let c0_i32_26 : BitVec 32 := 0#32
  let c1024_i32 : BitVec 32 := 1024#32
  let v40 : BitVec 32 := Scalar.addi c0_i32_26 c1024_i32
  let c1_i32_27 : BitVec 32 := 1#32
  ⟨c0_i32_26, v40, c1_i32_27⟩
def k0_off3 (k0_t2 : Fin k0_t2_loop.trips) : Fin 1 → Nat :=
  let c0_i32_53 : BitVec 32 := 0#32
  let c0_i32_26 : BitVec 32 := 0#32
  let c1_i32_27 : BitVec 32 := 1#32
  let arg12 : BitVec 32 := Scf.iv c0_i32_26 c1_i32_27 k0_t2
  let c1_i32_52 : BitVec 32 := 1#32
  let v72 : BitVec 32 := Scalar.muli arg12 c1_i32_52
  let v73 : BitVec 32 := Scalar.addi c0_i32_53 v72
  let c16_i32 : BitVec 32 := 16#32
  let v74 : BitVec 32 := Scalar.muli v73 c16_i32
  let v75 : Index := Scalar.indexCast v74
  ![v75.toNat]

def k0_chk1 (v76 : IVec S16 32) : Prop :=
  (∀ a x, ((![v76] : Fin 1 → IVec S16 32) a x).toNat < S16384.size a)
theorem k0_idx1_inb : ∀ (v76 : IVec S16 32) (k0_hw1 : k0_chk1 v76), ∀ a x, ((![v76] : Fin 1 → IVec S16 32) a x).toNat < S16384.size a := fun v76 k0_hw1 => k0_hw1

def k0_chk2 (v78 : IVec S16 32) : Prop :=
  (∀ a x, ((![v78] : Fin 1 → IVec S16 32) a x).toNat < S16384.size a)
theorem k0_idx2_inb : ∀ (v78 : IVec S16 32) (k0_hw2 : k0_chk2 v78), ∀ a x, ((![v78] : Fin 1 → IVec S16 32) a x).toNat < S16384.size a := fun v78 k0_hw2 => k0_hw2
def k0_off4 (i : grid0.Coords) (k0_t1 : Fin k0_t1_loop.trips) (c0_i32_16 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c4096_i32 : BitVec 32 := 4096#32
  let v3 : BitVec 32 := Scalar.muli v2 c4096_i32
  let c0_i32_15 : BitVec 32 := 0#32
  let c0_i32_3 : BitVec 32 := 0#32
  let c1_i32 : BitVec 32 := 1#32
  let arg11 : BitVec 32 := Scf.iv c0_i32_3 c1_i32 k0_t1
  let c2_i32_14 : BitVec 32 := 2#32
  let v24 : BitVec 32 := Scalar.muli arg11 c2_i32_14
  let v25 : BitVec 32 := Scalar.addi c0_i32_15 v24
  let v26 : BitVec 32 := Scalar.addi v25 c0_i32_16
  let c16384_i32_29 : BitVec 32 := 16384#32
  let v41 : BitVec 32 := Scalar.muli v26 c16384_i32_29
  let v42 : BitVec 32 := Scalar.addi v3 v41
  ![v42.toNat]
def k0_cond3 (k0_t1 : Fin k0_t1_loop.trips) : BitVec 1 :=
  let c0_i32_15 : BitVec 32 := 0#32
  let c0_i32_3 : BitVec 32 := 0#32
  let c1_i32 : BitVec 32 := 1#32
  let arg11 : BitVec 32 := Scf.iv c0_i32_3 c1_i32 k0_t1
  let c2_i32_14 : BitVec 32 := 2#32
  let v24 : BitVec 32 := Scalar.muli arg11 c2_i32_14
  let v25 : BitVec 32 := Scalar.addi c0_i32_15 v24
  let c1_i32_33 : BitVec 32 := 1#32
  let v49 : BitVec 32 := Scalar.addi v25 c1_i32_33
  let c1_i32_34 : BitVec 32 := 1#32
  let v50 : BitVec 32 := Scalar.addi v49 c1_i32_34
  let c24_i32_35 : BitVec 32 := 24#32
  let v51 : BitVec 1 := Scalar.cmpi .slt v50 c24_i32_35
  let v52 : BitVec 32 := Scalar.extui v51
  let c0_i32_36 : BitVec 32 := 0#32
  let v53 : BitVec 1 := Scalar.cmpi .ne v52 c0_i32_36
  v53

def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c4096_i32 : BitVec 32 := 4096#32
  let v3 : BitVec 32 := Scalar.muli v2 c4096_i32
  let c0_i32_15 : BitVec 32 := 0#32
  let c0_i32_3 : BitVec 32 := 0#32
  let c1_i32 : BitVec 32 := 1#32
  let arg11 : BitVec 32 := Scf.iv c0_i32_3 c1_i32 k0_t1
  let c2_i32_14 : BitVec 32 := 2#32
  let v24 : BitVec 32 := Scalar.muli arg11 c2_i32_14
  let v25 : BitVec 32 := Scalar.addi c0_i32_15 v24
  let c1_i32_33 : BitVec 32 := 1#32
  let v49 : BitVec 32 := Scalar.addi v25 c1_i32_33
  let c1_i32_52 : BitVec 32 := 1#32
  let v72 : BitVec 32 := Scalar.addi v49 c1_i32_52
  let c16384_i32_53 : BitVec 32 := 16384#32
  let v73 : BitVec 32 := Scalar.muli v72 c16384_i32_53
  let v74 : BitVec 32 := Scalar.addi v3 v73
  ![v74.toNat]
@[reducible] def k0_t3_loop : Scf.Loop 32 :=
  let c0_i32_44 : BitVec 32 := 0#32
  let c1024_i32_45 : BitVec 32 := 1024#32
  let v63 : BitVec 32 := Scalar.addi c0_i32_44 c1024_i32_45
  let c1_i32_46 : BitVec 32 := 1#32
  ⟨c0_i32_44, v63, c1_i32_46⟩
def k0_off6 (k0_t3 : Fin k0_t3_loop.trips) : Fin 1 → Nat :=
  let c0_i32_53 : BitVec 32 := 0#32
  let c0_i32_44 : BitVec 32 := 0#32
  let c1_i32_46 : BitVec 32 := 1#32
  let arg12 : BitVec 32 := Scf.iv c0_i32_44 c1_i32_46 k0_t3
  let c1_i32_52 : BitVec 32 := 1#32
  let v72 : BitVec 32 := Scalar.muli arg12 c1_i32_52
  let v73 : BitVec 32 := Scalar.addi c0_i32_53 v72
  let c16_i32 : BitVec 32 := 16#32
  let v74 : BitVec 32 := Scalar.muli v73 c16_i32
  let v75 : Index := Scalar.indexCast v74
  ![v75.toNat]

def k0_chk3 (v76 : IVec S16 32) : Prop :=
  (∀ a x, ((![v76] : Fin 1 → IVec S16 32) a x).toNat < S16384.size a)
theorem k0_idx3_inb : ∀ (v76 : IVec S16 32) (k0_hw3 : k0_chk3 v76), ∀ a x, ((![v76] : Fin 1 → IVec S16 32) a x).toNat < S16384.size a := fun v76 k0_hw3 => k0_hw3

def k0_chk4 (v78 : IVec S16 32) : Prop :=
  (∀ a x, ((![v78] : Fin 1 → IVec S16 32) a x).toNat < S16384.size a)
theorem k0_idx4_inb : ∀ (v78 : IVec S16 32) (k0_hw4 : k0_chk4 v78), ∀ a x, ((![v78] : Fin 1 → IVec S16 32) a x).toNat < S16384.size a := fun v78 k0_hw4 => k0_hw4
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x192x4096 : Shape := ⟨3, ![16, 192, 4096]⟩
abbrev S_ : Shape := ⟨0, ![]⟩
abbrev S4096 : Shape := ⟨1, ![4096]⟩
abbrev S4096x1 : Shape := ⟨2, ![4096, 1]⟩
abbrev S16x192x64x64 : Shape := ⟨4, ![16, 192, 64, 64]⟩

abbrev nBuf : Space → Nat
  | .hbm => 152
  | .vmem => 0
  | .smem => 0
  | _ => 0

abbrev hbmTy0_0 (i : Nat) : BufTy := match i % 128 with
  | 0 => ⟨S16x192x4096, .f32⟩
  | 1 => ⟨S_, .f32⟩
  | 2 => ⟨S16x192x4096, .f32⟩
  | 3 => ⟨S4096, .i32⟩
  | 4 => ⟨S_, .i32⟩
  | 5 => ⟨S4096, .i32⟩
  | 6 => ⟨S_, .i32⟩
  | 7 => ⟨S4096, .i32⟩
  | 8 => ⟨S_, .i32⟩
  | 9 => ⟨S4096, .i32⟩
  | 10 => ⟨S4096, .i32⟩
  | 11 => ⟨S_, .i32⟩
  | 12 => ⟨S4096, .i32⟩
  | 13 => ⟨S4096, .i32⟩
  | 14 => ⟨S_, .i32⟩
  | 15 => ⟨S4096, .i32⟩
  | 16 => ⟨S4096, .i32⟩
  | 17 => ⟨S4096, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S4096, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S_, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S4096, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S4096, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .i32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S4096, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S4096, .i32⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i32⟩
  | 127 => ⟨S4096, .i32⟩
  | _ => ⟨S16x192x4096, .f32⟩

abbrev hbmTy0_1 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S16x192x4096, .f32⟩
  | 23 => ⟨S16x192x64x64, .f32⟩
  | _ => ⟨S16x192x4096, .f32⟩

abbrev hbmTy (i : Nat) : BufTy := match i / 128 with
  | 0 => hbmTy0_0 i
  | 1 => hbmTy0_1 i
  | _ => ⟨S16x192x4096, .f32⟩

abbrev bufTy : (tb : Table) → Fin (tcTables nBuf tb) → BufTy
  | .hbm, ⟨i, _⟩ => hbmTy i
  | _, _ => ⟨S16x192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_v12 : Ref sig .tc := ⟨.hbm, 20, rfl⟩
abbrev main_c_5 : Ref sig .tc := ⟨.hbm, 21, rfl⟩
abbrev main_v13 : Ref sig .tc := ⟨.hbm, 22, rfl⟩
abbrev main_v14 : Ref sig .tc := ⟨.hbm, 23, rfl⟩
abbrev main_c_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_7 : Ref sig .tc := ⟨.hbm, 28, rfl⟩
abbrev main_v18 : Ref sig .tc := ⟨.hbm, 29, rfl⟩
abbrev main_v19 : Ref sig .tc := ⟨.hbm, 30, rfl⟩
abbrev main_c_8 : Ref sig .tc := ⟨.hbm, 31, rfl⟩
abbrev main_v20 : Ref sig .tc := ⟨.hbm, 32, rfl⟩
abbrev main_v21 : Ref sig .tc := ⟨.hbm, 33, rfl⟩
abbrev main_c_9 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_10 : Ref sig .tc := ⟨.hbm, 38, rfl⟩
abbrev main_v25 : Ref sig .tc := ⟨.hbm, 39, rfl⟩
abbrev main_v26 : Ref sig .tc := ⟨.hbm, 40, rfl⟩
abbrev main_c_11 : Ref sig .tc := ⟨.hbm, 41, rfl⟩
abbrev main_v27 : Ref sig .tc := ⟨.hbm, 42, rfl⟩
abbrev main_v28 : Ref sig .tc := ⟨.hbm, 43, rfl⟩
abbrev main_c_12 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_13 : Ref sig .tc := ⟨.hbm, 48, rfl⟩
abbrev main_v32 : Ref sig .tc := ⟨.hbm, 49, rfl⟩
abbrev main_v33 : Ref sig .tc := ⟨.hbm, 50, rfl⟩
abbrev main_c_14 : Ref sig .tc := ⟨.hbm, 51, rfl⟩
abbrev main_v34 : Ref sig .tc := ⟨.hbm, 52, rfl⟩
abbrev main_v35 : Ref sig .tc := ⟨.hbm, 53, rfl⟩
abbrev main_c_15 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_16 : Ref sig .tc := ⟨.hbm, 58, rfl⟩
abbrev main_v39 : Ref sig .tc := ⟨.hbm, 59, rfl⟩
abbrev main_v40 : Ref sig .tc := ⟨.hbm, 60, rfl⟩
abbrev main_c_17 : Ref sig .tc := ⟨.hbm, 61, rfl⟩
abbrev main_v41 : Ref sig .tc := ⟨.hbm, 62, rfl⟩
abbrev main_v42 : Ref sig .tc := ⟨.hbm, 63, rfl⟩
abbrev main_c_18 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_19 : Ref sig .tc := ⟨.hbm, 68, rfl⟩
abbrev main_v46 : Ref sig .tc := ⟨.hbm, 69, rfl⟩
abbrev main_v47 : Ref sig .tc := ⟨.hbm, 70, rfl⟩
abbrev main_c_20 : Ref sig .tc := ⟨.hbm, 71, rfl⟩
abbrev main_v48 : Ref sig .tc := ⟨.hbm, 72, rfl⟩
abbrev main_v49 : Ref sig .tc := ⟨.hbm, 73, rfl⟩
abbrev main_c_21 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_22 : Ref sig .tc := ⟨.hbm, 78, rfl⟩
abbrev main_v53 : Ref sig .tc := ⟨.hbm, 79, rfl⟩
abbrev main_v54 : Ref sig .tc := ⟨.hbm, 80, rfl⟩
abbrev main_c_23 : Ref sig .tc := ⟨.hbm, 81, rfl⟩
abbrev main_v55 : Ref sig .tc := ⟨.hbm, 82, rfl⟩
abbrev main_v56 : Ref sig .tc := ⟨.hbm, 83, rfl⟩
abbrev main_c_24 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_25 : Ref sig .tc := ⟨.hbm, 88, rfl⟩
abbrev main_v60 : Ref sig .tc := ⟨.hbm, 89, rfl⟩
abbrev main_v61 : Ref sig .tc := ⟨.hbm, 90, rfl⟩
abbrev main_c_26 : Ref sig .tc := ⟨.hbm, 91, rfl⟩
abbrev main_v62 : Ref sig .tc := ⟨.hbm, 92, rfl⟩
abbrev main_v63 : Ref sig .tc := ⟨.hbm, 93, rfl⟩
abbrev main_c_27 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_28 : Ref sig .tc := ⟨.hbm, 98, rfl⟩
abbrev main_v67 : Ref sig .tc := ⟨.hbm, 99, rfl⟩
abbrev main_v68 : Ref sig .tc := ⟨.hbm, 100, rfl⟩
abbrev main_c_29 : Ref sig .tc := ⟨.hbm, 101, rfl⟩
abbrev main_v69 : Ref sig .tc := ⟨.hbm, 102, rfl⟩
abbrev main_v70 : Ref sig .tc := ⟨.hbm, 103, rfl⟩
abbrev main_c_30 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_31 : Ref sig .tc := ⟨.hbm, 108, rfl⟩
abbrev main_v74 : Ref sig .tc := ⟨.hbm, 109, rfl⟩
abbrev main_v75 : Ref sig .tc := ⟨.hbm, 110, rfl⟩
abbrev main_c_32 : Ref sig .tc := ⟨.hbm, 111, rfl⟩
abbrev main_v76 : Ref sig .tc := ⟨.hbm, 112, rfl⟩
abbrev main_v77 : Ref sig .tc := ⟨.hbm, 113, rfl⟩
abbrev main_c_33 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_34 : Ref sig .tc := ⟨.hbm, 118, rfl⟩
abbrev main_v81 : Ref sig .tc := ⟨.hbm, 119, rfl⟩
abbrev main_v82 : Ref sig .tc := ⟨.hbm, 120, rfl⟩
abbrev main_c_35 : Ref sig .tc := ⟨.hbm, 121, rfl⟩
abbrev main_v83 : Ref sig .tc := ⟨.hbm, 122, rfl⟩
abbrev main_v84 : Ref sig .tc := ⟨.hbm, 123, rfl⟩
abbrev main_c_36 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_37 : Ref sig .tc := ⟨.hbm, 128, rfl⟩
abbrev main_v88 : Ref sig .tc := ⟨.hbm, 129, rfl⟩
abbrev main_v89 : Ref sig .tc := ⟨.hbm, 130, rfl⟩
abbrev main_c_38 : Ref sig .tc := ⟨.hbm, 131, rfl⟩
abbrev main_v90 : Ref sig .tc := ⟨.hbm, 132, rfl⟩
abbrev main_v91 : Ref sig .tc := ⟨.hbm, 133, rfl⟩
abbrev main_c_39 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_c_40 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_41 : Ref sig .tc := ⟨.hbm, 142, rfl⟩
abbrev main_v98 : Ref sig .tc := ⟨.hbm, 143, rfl⟩
abbrev main_v99 : Ref sig .tc := ⟨.hbm, 144, rfl⟩
abbrev main_c_42 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩

abbrev nD : Nat := 1
abbrev τ : Topo := Topo.v7x

variable {F : FTy → Type} [FloatOps F]
-- ==== Proof.Tables.lean ====
/-
  The kernel's two position tables, as plain functions of a number. A block is four rows of 4096 elements. Position `q` of
  a block is row `q / 4096`, element `q % 4096`. The permutation sends element `s` of a row to `mort s`, whose upper six
  bits are the odd bits of `s` and whose lower six its even bits; `unm` is its inverse, row by row. The tables list the
  block's positions in another order: entry `p` of the first is a position to read, entry `p` of the second the position
  to write it at. What the proof needs of them is checked here entry by entry.
-/
module

public import proofs.«01_k».proof.KernelIdeal

@[expose] public section

noncomputable section

namespace Cert.Proof.Tables

open Cert.KernelIdeal

/-- The even bits of a 12-bit number go to its lower half, the odd bits to its upper half. -/
def mort (s : Nat) : Nat :=
  (s >>> 0 &&& 1) <<< 0 ||| (s >>> 2 &&& 1) <<< 1 ||| (s >>> 4 &&& 1) <<< 2 ||| (s >>> 6 &&& 1) <<< 3
    ||| (s >>> 8 &&& 1) <<< 4 ||| (s >>> 10 &&& 1) <<< 5
    ||| (s >>> 1 &&& 1) <<< 6 ||| (s >>> 3 &&& 1) <<< 7 ||| (s >>> 5 &&& 1) <<< 8 ||| (s >>> 7 &&& 1) <<< 9
    ||| (s >>> 9 &&& 1) <<< 10 ||| (s >>> 11 &&& 1) <<< 11

/-- The inverse of `mort`. -/
def unmort (y : Nat) : Nat :=
  (y >>> 0 &&& 1) <<< 0 ||| (y >>> 1 &&& 1) <<< 2 ||| (y >>> 2 &&& 1) <<< 4 ||| (y >>> 3 &&& 1) <<< 6
    ||| (y >>> 4 &&& 1) <<< 8 ||| (y >>> 5 &&& 1) <<< 10
    ||| (y >>> 6 &&& 1) <<< 1 ||| (y >>> 7 &&& 1) <<< 3 ||| (y >>> 8 &&& 1) <<< 5 ||| (y >>> 9 &&& 1) <<< 7
    ||| (y >>> 10 &&& 1) <<< 9 ||| (y >>> 11 &&& 1) <<< 11

/-- The lane that holds element `s` of a row in the tables' order. -/
def laneOf (s : Nat) : Nat :=
  (s >>> 0 &&& 1) <<< 0 ||| (s >>> 2 &&& 1) <<< 1 ||| (s >>> 1 &&& 1) <<< 2 ||| (s >>> 3 &&& 1) <<< 3

/-- What a lane's number is spread to. -/
def offOf (l : Nat) : Nat := (l &&& 1) * 1 + (l >>> 1 &&& 1) * 4 + (l >>> 2 &&& 1) * 18 + (l >>> 3 &&& 1) * 72

/-- The entry of the tables that holds element `s` of a row. -/
def entryOf (s : Nat) : Nat := ((s ^^^ offOf (laneOf s)) / 16) * 16 + laneOf s

theorem mort_unmort : ∀ y : Fin 4096, mort (unmort y.val) = y.val := by decide +kernel
theorem unmort_mort : ∀ s : Fin 4096, unmort (mort s.val) = s.val := by decide +kernel
theorem mort_lt : ∀ s : Fin 4096, mort s.val < 4096 := by decide +kernel
theorem unmort_lt : ∀ y : Fin 4096, unmort y.val < 4096 := by decide +kernel

/-- A choice among 128 values by a number is a look-up in the list of them. -/
theorem pick {α : Type} (n : Nat) (a0 a1 a2 a3 a4 a5 a6 a7 a8 a9 a10 a11 a12 a13 a14 a15 a16 a17 a18 a19 a20 a21 a22 a23 a24 a25 a26 a27 a28 a29 a30 a31 a32 a33 a34 a35 a36 a37 a38 a39
    a40 a41 a42 a43 a44 a45 a46 a47 a48 a49 a50 a51 a52 a53 a54 a55 a56 a57 a58 a59 a60 a61 a62 a63 a64 a65 a66 a67 a68 a69 a70 a71 a72 a73 a74 a75 a76 a77
    a78 a79 a80 a81 a82 a83 a84 a85 a86 a87 a88 a89 a90 a91 a92 a93 a94 a95 a96 a97 a98 a99 a100 a101 a102 a103 a104 a105 a106 a107 a108 a109 a110 a111
    a112 a113 a114 a115 a116 a117 a118 a119 a120 a121 a122 a123 a124 a125 a126 a127 d : α) :
    (match n with
    | 0 => a0 | 1 => a1 | 2 => a2 | 3 => a3 | 4 => a4 | 5 => a5 | 6 => a6 | 7 => a7 | 8 => a8 | 9 => a9 | 10 => a10 | 11 => a11 | 12 => a12 | 13 => a13 |
    14 => a14 | 15 => a15 | 16 => a16 | 17 => a17 | 18 => a18 | 19 => a19 | 20 => a20 | 21 => a21 | 22 => a22 | 23 => a23 | 24 => a24 | 25 => a25 | 26 =>
    a26 | 27 => a27 | 28 => a28 | 29 => a29 | 30 => a30 | 31 => a31 | 32 => a32 | 33 => a33 | 34 => a34 | 35 => a35 | 36 => a36 | 37 => a37 | 38 => a38 |
    39 => a39 | 40 => a40 | 41 => a41 | 42 => a42 | 43 => a43 | 44 => a44 | 45 => a45 | 46 => a46 | 47 => a47 | 48 => a48 | 49 => a49 | 50 => a50 | 51 =>
    a51 | 52 => a52 | 53 => a53 | 54 => a54 | 55 => a55 | 56 => a56 | 57 => a57 | 58 => a58 | 59 => a59 | 60 => a60 | 61 => a61 | 62 => a62 | 63 => a63 |
    64 => a64 | 65 => a65 | 66 => a66 | 67 => a67 | 68 => a68 | 69 => a69 | 70 => a70 | 71 => a71 | 72 => a72 | 73 => a73 | 74 => a74 | 75 => a75 | 76 =>
    a76 | 77 => a77 | 78 => a78 | 79 => a79 | 80 => a80 | 81 => a81 | 82 => a82 | 83 => a83 | 84 => a84 | 85 => a85 | 86 => a86 | 87 => a87 | 88 => a88 |
    89 => a89 | 90 => a90 | 91 => a91 | 92 => a92 | 93 => a93 | 94 => a94 | 95 => a95 | 96 => a96 | 97 => a97 | 98 => a98 | 99 => a99 | 100 => a100 | 101
    => a101 | 102 => a102 | 103 => a103 | 104 => a104 | 105 => a105 | 106 => a106 | 107 => a107 | 108 => a108 | 109 => a109 | 110 => a110 | 111 => a111 |
    112 => a112 | 113 => a113 | 114 => a114 | 115 => a115 | 116 => a116 | 117 => a117 | 118 => a118 | 119 => a119 | 120 => a120 | 121 => a121 | 122 => a122
    | 123 => a123 | 124 => a124 | 125 => a125 | 126 => a126 | 127 => a127 | _ => d)
      = [a0, a1, a2, a3, a4, a5, a6, a7, a8, a9, a10, a11, a12, a13, a14, a15, a16, a17, a18, a19, a20, a21, a22, a23, a24, a25, a26, a27, a28, a29, a30, a31,
    a32, a33, a34, a35, a36, a37, a38, a39, a40, a41, a42, a43, a44, a45, a46, a47, a48, a49, a50, a51, a52, a53, a54, a55, a56, a57, a58, a59, a60, a61,
    a62, a63, a64, a65, a66, a67, a68, a69, a70, a71, a72, a73, a74, a75, a76, a77, a78, a79, a80, a81, a82, a83, a84, a85, a86, a87, a88, a89, a90, a91,
    a92, a93, a94, a95, a96, a97, a98, a99, a100, a101, a102, a103, a104, a105, a106, a107, a108, a109, a110, a111, a112, a113, a114, a115, a116, a117,
    a118, a119, a120, a121, a122, a123, a124, a125, a126, a127].getD n d := by
  iterate 128 (rcases n with _ | n; · rfl)
  rfl

/-- What is checked of entry `p`, at table words `a` (read here) and `b` (write there). -/
def okEntry (p a b : Nat) : Bool :=
  Nat.blt b 16384 && (Nat.beq a (b / 4096 * 4096 + unmort (b % 4096)) && Nat.beq p (a / 4096 * 4096 + entryOf (a % 4096)))

/-- `okEntry` at every place of two lists of words, the first at entry `p`. -/
def okList : Nat → List (BitVec 32) → List (BitVec 32) → Bool
  | p, a :: A, b :: B => okEntry p a.toNat b.toNat && okList (p + 1) A B
  | _, [], [] => true
  | _, _, _ => false

theorem okList_get : ∀ (A B : List (BitVec 32)) (p : Nat), okList p A B = true → ∀ n, n < A.length →
    okEntry (p + n) (A.getD n 0#32).toNat (B.getD n 0#32).toNat = true
  | [], _, _, _, n, hn => absurd hn (Nat.not_lt_zero n)
  | _ :: _, [], _, h, _, _ => by simp [okList] at h
  | a :: A, b :: B, p, h, n, hn => by
    simp only [okList, Bool.and_eq_true] at h
    rcases n with _ | n
    · simpa using h.1
    · have := okList_get A B (p + 1) h.2 n (by simpa using hn)
      rw [show p + (n + 1) = p + 1 + n by omega]
      simpa using this

/-- 128 entries in one go, from the lists of their words. -/
theorem leaf (p : Nat) {f g : Nat → BitVec 32} {A B : List (BitVec 32)} (hA : ∀ i, f i = A.getD (i % 128) 0#32)
    (hB : ∀ i, g i = B.getD (i % 128) 0#32) (hl : A.length = 128) (h : okList p A B = true) {i j : Nat} (hj : j % 128 = i % 128) :
    okEntry (p + i % 128) (f i).toNat (g j).toNat = true := by
  rw [hA, hB, hj]
  exact okList_get A B p h _ (by rw [hl]; omega)

/-- A list of words at one place of each run of 128 entries, the first run from entry `p`. -/
def okRuns (i : Nat) : Nat → List (BitVec 32) → List (BitVec 32) → Prop
  | p, a :: A, b :: B => okEntry (p + i % 128) a.toNat b.toNat = true ∧ okRuns i (p + 128) A B
  | _, [], [] => True
  | _, _, _ => False

theorem okRuns_get (i : Nat) : ∀ (A B : List (BitVec 32)) (p : Nat), okRuns i p A B → ∀ n, n < A.length →
    okEntry (p + 128 * n + i % 128) (A.getD n 0#32).toNat (B.getD n 0#32).toNat = true
  | [], _, _, _, n, hn => absurd hn (Nat.not_lt_zero n)
  | _ :: _, [], _, h, _, _ => h.elim
  | a :: A, b :: B, p, h, n, hn => by
    rcases n with _ | n
    · simpa using h.1
    · have := okRuns_get i A B (p + 128) h.2 n (by simpa using hn)
      rw [show p + 128 * (n + 1) + i % 128 = p + 128 + 128 * n + i % 128 by omega]
      simpa using this

set_option maxRecDepth 100000 in
theorem upper {i j : Nat} (hj : j % 128 = i % 128) : ∃ A B : List (BitVec 32), A.length = 128
    ∧ lit0t1_0 i = A.getD (i / 128 % 128) 0#32 ∧ lit0t1_1 j = B.getD (j / 128 % 128) 0#32 ∧ okRuns i 0 A B := by
  refine ⟨_, _, rfl, pick _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _,
    pick _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _, ?_⟩
  repeat refine ⟨leaf _ (fun i => pick (i % 128) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _)
    (fun i => pick (i % 128) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _) rfl (by decide +kernel) hj, ?_⟩
  trivial

/-- The position read, and the position written, at entry `p`. -/
def srcOf (p : Nat) : Nat := (lit0t p).toNat
def dstOf (p : Nat) : Nat := (lit0t (16384 + p)).toNat

theorem entry_ok {p : Nat} (hp : p < 16384) : okEntry p (srcOf p) (dstOf p) = true := by
  obtain ⟨A, B, hl, hA, hB, h⟩ := upper (i := p) (j := 16384 + p) (by omega)
  have hs : lit0t p = lit0t1_0 p := by
    unfold lit0t; rw [show p / 16384 = 0 by omega]; rfl
  have hd : lit0t (16384 + p) = lit0t1_1 (16384 + p) := by
    unfold lit0t; rw [show (16384 + p) / 16384 = 1 by omega]; rfl
  have := okRuns_get p A B 0 h (p / 128 % 128) (by rw [hl]; omega)
  rw [show 0 + 128 * (p / 128 % 128) + p % 128 = p by omega] at this
  unfold srcOf dstOf
  rw [hs, hd, hA, hB, show (16384 + p) / 128 % 128 = p / 128 % 128 by omega]
  exact this

/-- The element of the argument that goes to element `n` of the result, rows of 4096 laid end to end. -/
def srcPos (n : Nat) : Nat := n / 4096 * 4096 + unmort (n % 4096)

theorem dst_lt {p : Nat} (hp : p < 16384) : dstOf p < 16384 := by
  have h := entry_ok hp
  simp only [okEntry, Bool.and_eq_true] at h
  simpa using h.1

theorem src_eq {p : Nat} (hp : p < 16384) : srcOf p = srcPos (dstOf p) := by
  have h := entry_ok hp
  simp only [okEntry, Bool.and_eq_true] at h
  exact Nat.eq_of_beq_eq_true h.2.1

theorem entry_eq {p : Nat} (hp : p < 16384) : p = srcOf p / 4096 * 4096 + entryOf (srcOf p % 4096) := by
  have h := entry_ok hp
  simp only [okEntry, Bool.and_eq_true] at h
  exact Nat.eq_of_beq_eq_true h.2.2

theorem srcPos_lt {n : Nat} (k : Nat) (hn : n < 4096 * k) : srcPos n < 4096 * k := by
  have := unmort_lt ⟨n % 4096, Nat.mod_lt _ (by decide)⟩
  unfold srcPos; simp only at this; omega

theorem src_lt {p : Nat} (hp : p < 16384) : srcOf p < 16384 := by
  rw [src_eq hp]; exact srcPos_lt 4 (dst_lt hp)

theorem srcPos_add {n b : Nat} (hb : 4096 ∣ b) : srcPos (b + n) = b + srcPos n := by
  obtain ⟨k, rfl⟩ := hb
  unfold srcPos
  rw [show (4096 * k + n) / 4096 = k + n / 4096 by omega, show (4096 * k + n) % 4096 = n % 4096 by omega]
  omega

/-- Every position is written. -/
theorem dst_surj {b : Nat} (hb : b < 16384) : ∃ p, p < 16384 ∧ dstOf p = b := by
  let g : Fin 16384 → Fin 16384 := fun p => ⟨dstOf p.val, dst_lt p.isLt⟩
  have hg : Function.Injective g := fun p q h => by
    have h' : dstOf p.val = dstOf q.val := Fin.mk.inj h
    apply Fin.ext
    rw [entry_eq p.isLt, entry_eq q.isLt, src_eq p.isLt, src_eq q.isLt, h']
  obtain ⟨p, hp⟩ := (Finite.injective_iff_surjective.mp hg) ⟨b, hb⟩
  exact ⟨p.val, p.isLt, Fin.mk.inj hp⟩

end Cert.Proof.Tables

end
-- ==== Proof.Common.lean ====
/-
  The names the proof shares: the program as the launch theorem sees it, the arrays and scratch buffers, and the
  geometry of one-dimensional buffers — an index from a number, and the interval of indices from one number up to another.
-/
module

public import proofs.«01_k».proof.Defs
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Tables

@[expose] public section

noncomputable section

namespace Cert.Proof.K

open Cert.KernelIdeal Cert.KernelIdeal.Gen Cert.Proof.Tables

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch buffers -/

/-- The argument laid flat, the tables, the result laid flat, as locations of device `d`. -/
abbrev xLoc (d : Dev nD) : Loc nD τ sig := (SparseCore.T d).loc main_v0
abbrev tLoc (d : Dev nD) : Loc nD τ sig := (SparseCore.T d).loc main_c
abbrev oLoc (d : Dev nD) : Loc nD τ sig := (SparseCore.T d).loc main_v1

abbrev xV : Memref sig .scVector .hbm S12582912 .f32 := Memref.whole main_v0_scv
abbrev tV : Memref sig .scVector .hbm S32768 .i32 := Memref.whole main_c_scv
abbrev oV : Memref sig .scVector .hbm S12582912 .f32 := Memref.whole main_v1_scv
/-- A subcore's scratch: the table of positions to read, that of positions to write, the two halves of blocks read, the
    two halves of blocks to write. -/
abbrev sR : Memref sig .scVector .vmem S16384 .i32 := Memref.whole cc0_scratch0
abbrev sW : Memref sig .scVector .vmem S16384 .i32 := Memref.whole cc0_scratch1
abbrev bI : Memref sig .scVector .vmem S32768 .f32 := Memref.whole cc0_scratch2
abbrev bO : Memref sig .scVector .vmem S32768 .f32 := Memref.whole cc0_scratch3

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## One-dimensional buffers -/

/-- The shape of `N` elements in a row, and the index of number `n`. -/
abbrev Row (N : Nat) : Shape := ⟨1, ![N]⟩
def ix {N : Nat} (n : Nat) (h : n < N) : (Row N).Idx := fun a => ⟨n, by rw [Subsingleton.elim a 0]; exact h⟩

theorem ix_val {N : Nat} (n : Nat) (h : n < N) : (ix n h 0).val = n := rfl
theorem idx_ext {N : Nat} {i j : (Row N).Idx} (h : (i 0).val = (j 0).val) : i = j := by
  funext a; rw [Subsingleton.elim a 0]; exact Fin.ext h
theorem idx_lt {N : Nat} (i : (Row N).Idx) : (i 0).val < N := (i 0).isLt
theorem ix_eta {N : Nat} (i : (Row N).Idx) : ix (i 0).val (idx_lt i) = i := idx_ext rfl

/-- The indices from number `a` up to number `b`. -/
def Iv {N : Nat} (a b : Nat) : Finset (Row N).Idx := Finset.univ.filter fun i => a ≤ (i 0).val ∧ (i 0).val < b

theorem mem_Iv {N : Nat} {a b : Nat} {i : (Row N).Idx} : i ∈ Iv a b ↔ a ≤ (i 0).val ∧ (i 0).val < b := by
  unfold Iv; rw [Finset.mem_filter]; exact and_iff_right (Finset.mem_univ _)
theorem Iv_empty {N : Nat} (a : Nat) : (Iv a a : Finset (Row N).Idx) = ∅ := by
  ext i; rw [mem_Iv]; simp
theorem Iv_univ {N : Nat} : (Iv 0 N : Finset (Row N).Idx) = Finset.univ := by
  ext i; rw [mem_Iv]; exact iff_of_true ⟨Nat.zero_le _, idx_lt i⟩ (Finset.mem_univ _)
theorem Iv_union {N : Nat} {a b c : Nat} (h1 : a ≤ b) (h2 : b ≤ c) : (Iv a b ∪ Iv b c : Finset (Row N).Idx) = Iv a c := by
  ext i; rw [Finset.mem_union, mem_Iv, mem_Iv, mem_Iv]; omega
theorem Iv_disjoint {N : Nat} {a b c e : Nat} (h : b ≤ c ∨ e ≤ a) : Disjoint (Iv a b : Finset (Row N).Idx) (Iv c e) := by
  rw [Finset.disjoint_left]; intro i h1 h2; rw [mem_Iv] at h1 h2; omega

/-- Elements `n` to `n + k` of a row, as a rectangle. -/
theorem unit_set {N n k : Nat} (inb) : (Rect.unit (s := Row N) ![n] ![k] inb).set = Iv n (n + k) := by
  ext i
  rw [Rect.mem_set_unit, mem_Iv]
  constructor
  · intro h; exact h 0
  · intro h a; rw [Subsingleton.elim a 0]; exact h

/-! ## What the kernel computes -/

/-- Each row of 4096 elements permuted. -/
def OUT {α : Type} (X : S12582912.Idx → α) : S12582912.Idx → α :=
  fun j => X (ix (srcPos (j 0).val) (by have := srcPos_lt 3072 (n := (j 0).val) (by have := idx_lt j; omega); omega))

end Cert.Proof.K

end
-- ==== Proof.Lane.lean ====
/-
  The inner loop: 1024 steps, each reading 16 positions to read and 16 positions to write, gathering the block's elements
  at the first and scattering them at the second. It is proved once, for any two memrefs of a block's length.
-/
module

public import proofs.«01_k».proof.Proof.Common

@[expose] public section

noncomputable section

namespace Cert.Proof.K

open Cert.KernelIdeal Cert.KernelIdeal.Gen Cert.Proof.Tables

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## A memref accessed whole -/

section Access

variable {κ : Kind} {sp : Space} {s : Shape} {e : EltTy}

theorem whole_emb (x : s.Idx) : (Rect.whole s).emb x = x := by
  funext a; apply Fin.ext
  rw [Rect.emb_apply]
  show 0 + 1 * (x a).val = (x a).val
  omega

theorem acc_read (v : View sig κ sp s e) (f : v.ty.Contents (Elt F)) : (v.slice (.whole s)).read (Elt F) f = v.read (Elt F) f := by
  funext x
  show v.read (Elt F) f ((Rect.whole s).emb x) = _
  rw [whole_emb]

theorem acc_set (v : View sig κ sp s e) : (v.slice (.whole s)).set = v.set := by
  ext i
  rw [View.set, View.set, Finset.mem_map, Finset.mem_map]
  constructor
  · rintro ⟨x, -, rfl⟩; exact ⟨_, Finset.mem_univ _, rfl⟩
  · rintro ⟨x, -, rfl⟩
    refine ⟨x, Finset.mem_univ _, ?_⟩
    show v.emb ((Rect.whole s).emb x) = v.emb x
    rw [whole_emb]

end Access

/-! ## An indexed store of agreeing lanes -/

/-- A store of lanes, every lane's value that of `G` at its index: at an index some lane has, `G`; elsewhere as before. -/
theorem store_lanes {N n : Nat} {α : Type} (G : (Row N).Idx → α) (idx : Fin n → (Row N).Idx) (val : Fin n → α) (hv : ∀ k, val k = G (idx k)) :
    ∀ (l : List (Fin n)) (f : (Row N).Idx → α) (j : (Row N).Idx),
      ((∃ k ∈ l, j = idx k) → l.foldl (fun g k => fun j => if (∀ a, (j a).val = (idx k a).val) then val k else g j) f j = G j)
      ∧ (f j = G j → l.foldl (fun g k => fun j => if (∀ a, (j a).val = (idx k a).val) then val k else g j) f j = G j)
  | [], f, j => ⟨fun ⟨_, h, _⟩ => absurd h (List.not_mem_nil), fun h => h⟩
  | k :: l, f, j => by
    have ih := store_lanes G idx val hv l (fun j => if (∀ a, (j a).val = (idx k a).val) then val k else f j) j
    rw [List.foldl_cons]
    constructor
    · rintro ⟨k', hk', rfl⟩
      rcases List.mem_cons.mp hk' with rfl | hk'
      · refine ih.2 ?_
        rw [if_pos fun _ => rfl]; exact hv _
      · exact ih.1 ⟨k', hk', rfl⟩
    · intro h
      refine ih.2 ?_
      split
      · rename_i hj
        rw [show j = idx k from funext fun a => Fin.ext (hj a)]; exact hv _
      · exact h

variable [FloatOps F]

section Lanes

variable (d : Dev nD) (L : grid0.Coords)

/-- One step of the inner loop, at any memrefs and offsets. -/
def lanes (r w : Memref sig .scVector .vmem S16384 .i32) (a b : Memref sig .scVector .vmem S16384 .f32) (off : Fin 1 → Nat)
    (inb : ∀ x, off x + S16.size x ≤ S16384.size x) :
    Prog (TpuEff nD τ sig (Elt F) Λ₀ (.scVector (cV L) (jV L))) Unit := do
  let u : Vec F S16 .i32 ← Prog.lift (.load r (Rect.unit (s := S16384) off S16.size inb).toLoadRect (View.loadsAt_vmem h_S16))
  have hu : k0_chk1 u := (← Prog.lift (TpuEff.assume (k0_chk1 u) (k0_chk1.dec u))).down
  let v : Vec F S16 .i32 ← Prog.lift (.load w (Rect.unit (s := S16384) off S16.size inb).toLoadRect (View.loadsAt_vmem h_S16))
  have hv : k0_chk2 v := (← Prog.lift (TpuEff.assume (k0_chk2 v) (k0_chk2.dec v))).down
  let y : Vec F S16 .f32 ← SparseCore.vectorLoadIdx a ![u] (k0_idx1_inb u hu) (View.loads_vmem h_S16384)
  SparseCore.vectorStoreIdx b ![v] y (fun _ => 1#1) false (k0_idx2_inb v hv) (View.stores_vmem_bits_univ h_S16384 rfl)
  pure ⟨⟩

/-- The permuted block. -/
def perm {α : Type} (f : S16384.Idx → α) : S16384.Idx → α :=
  fun j => f (ix (srcPos (j 0).val) (srcPos_lt 4 (idx_lt j)))

/-- What a table's buffer holds. -/
def Holds (tab : Nat → Nat) (t : S16384.Idx → BitVec 32) : Prop := ∀ p (h : p < 16384), (t (ix p h)).toNat = tab p

/-- A load of 16 table words from offset `o`. -/
theorem load_word {m : Memref sig .scVector .vmem S16384 .i32} {t : m.view.ty.Contents (Elt F)} {tab : Nat → Nat}
    (ht : Holds tab (m.view.read (Elt F) t)) {o : Nat} (inb) (x : S16.Idx) :
    o + (x 0).val < 16384 ∧
      ((m.view.readAt (Elt F) (Rect.unit (s := S16384) ![o] S16.size inb).toLoadRect t : S16.Idx → BitVec 32) x).toNat = tab (o + (x 0).val) := by
  have h1 : o + 16 ≤ 16384 := inb 0
  have h2 : (x 0).val < 16 := (x 0).isLt
  have h : o + (x 0).val < 16384 := by omega
  have e : (Rect.unit (s := S16384) ![o] S16.size inb).toLoadRect.idx x = ix _ h := by
    apply idx_ext
    rw [LoadRect.idx_apply]
    show o + 1 * (x 0).val = o + (x 0).val
    omega
  refine ⟨h, ?_⟩
  have := ht _ h
  rw [← e] at this
  exact this

/-- An unmasked store of 16 lanes as a fold of single updates. -/
theorem store_fold (g : S16384.Idx → Elt F .f32) (idxs : Fin 1 → IVec S16 32) (y : S16.Idx → Elt F .f32)
    (h : ∀ a x, (idxs a x).toNat < S16384.size a) :
    storeIdx (F := F) (s := S16384) (e := .f32) g idxs y (fun _ => 1#1) false h
      = (List.finRange 16).foldl (fun g (l : Fin 16) => fun j : S16384.Idx =>
          if (∀ a, (j a).val = (idxAt idxs h (Shape.ofLane l) a).val) then y (Shape.ofLane l) else g j) g := by
  unfold storeIdx
  refine congrArg (fun step => List.foldl step g (List.finRange 16)) (funext fun g => funext fun l => ?_)
  dsimp only
  rw [if_pos (show (1#1 : BitVec 1) = 1 from rfl), if_neg Bool.false_ne_true]
  funext j
  congr

/-- Gathering at 16 table entries and scattering at 16 puts the permuted block there, and keeps it where it was. -/
theorem store_perm (f g : S16384.Idx → Elt F .f32) (u v : IVec S16 32) (hu : ∀ a x, ((![u] : Fin 1 → IVec S16 32) a x).toNat < S16384.size a)
    (hv : ∀ a x, ((![v] : Fin 1 → IVec S16 32) a x).toNat < S16384.size a) (o : Nat)
    (hu' : ∀ x : S16.Idx, o + (x 0).val < 16384 ∧ (u x).toNat = srcOf (o + (x 0).val))
    (hv' : ∀ x : S16.Idx, o + (x 0).val < 16384 ∧ (v x).toNat = dstOf (o + (x 0).val))
    (j : S16384.Idx) (hj : (∃ l : Fin 16, (j 0).val = dstOf (o + l.val)) ∨ g j = perm f j) :
    storeIdx (F := F) (e := .f32) g ![v] (loadIdx (F := F) (e := .f32) f ![u] hu) (fun _ => 1#1) false hv j = perm f j := by
  have key := store_lanes (N := 16384) (perm f) (fun l : Fin 16 => idxAt ![v] hv (Shape.ofLane l))
    (fun l => loadIdx (F := F) (e := .f32) f ![u] hu (Shape.ofLane l)) (fun l => by
      show f (idxAt ![u] hu (Shape.ofLane l)) = f _
      congr 1
      apply idx_ext
      rw [ix_val]
      show (u (Shape.ofLane l)).toNat = srcPos (v (Shape.ofLane l)).toNat
      rw [(hu' _).2, (hv' _).2]
      exact src_eq (hu' _).1) (List.finRange 16) g j
  refine (congrFun (store_fold g ![v] _ hv) j).trans ?_
  rcases hj with ⟨l, hl⟩ | hj
  · refine key.1 ⟨l, List.mem_finRange l, ?_⟩
    apply idx_ext
    rw [hl]
    exact ((hv' (Shape.ofLane l)).2).symm
  · exact key.2 hj

/-- The loop's invariant: the tables, the block read, and the block written, right at the first `16 * k` positions. -/
def laneInv (r w : Memref sig .scVector .vmem S16384 .i32) (a b : Memref sig .scVector .vmem S16384 .f32)
    (tr : Buf (Elt F) (r.view.loc (thr d L))) (tw : Buf (Elt F) (w.view.loc (thr d L))) (f : Buf (Elt F) (a.view.loc (thr d L))) (k : Nat) : sProp 𝕄 :=
  iprop((r.view.loc (thr d L) ↦{fullShare} tr) ∗ (w.view.loc (thr d L) ↦{fullShare} tw) ∗ (a.view.loc (thr d L) ↦[a.view.set]{fullShare} f)
    ∗ ∃ g, ⌜∀ p (h : p < 16384), p < 16 * k → b.view.read (Elt F) g (ix (dstOf p) (dst_lt h)) = perm (a.view.read (Elt F) f) (ix (dstOf p) (dst_lt h))⌝
      ∗ b.view.loc (thr d L) ↦[b.view.set]{fullShare} g)

set_option maxHeartbeats 1000000 in
theorem lanes_step (r w : Memref sig .scVector .vmem S16384 .i32) (a b : Memref sig .scVector .vmem S16384 .f32)
    (tr : Buf (Elt F) (r.view.loc (thr d L))) (tw : Buf (Elt F) (w.view.loc (thr d L))) (f : Buf (Elt F) (a.view.loc (thr d L)))
    (hr : Holds srcOf (r.view.read (Elt F) tr)) (hw : Holds dstOf (w.view.read (Elt F) tw))
    (off : Fin 1 → Nat) (inb) (k : Nat) (hoff : off = ![16 * k]) :
    laneInv d L r w a b tr tw f k
      ⊢ wp frame (wpE (defs₀ (F := F)) 𝒱₀ (thr d L) none) Set.univ (lanes L r w a b off inb) (fun _ => laneInv d L r w a b tr tw f (k + 1)) := by
  subst hoff
  unfold laneInv lanes
  simp only [Prog.lift, Prog.bind_op, Prog.bind_ret, Prog.pure_eq_ret]
  iintro ⟨Hr, Hw, Ha, %g, %hg, Hb⟩
  iapply (wp_load 𝒱₀ (thr d L) none Set.univ (m := r) (S := Finset.univ) (Finset.subset_univ _)) $$ Hr
  iintro Hr
  have hu : k0_chk1 (r.view.readAt (Elt F) (Rect.unit (s := S16384) ![16 * k] S16.size inb).toLoadRect tr) := by
    intro x y
    obtain rfl : x = 0 := Subsingleton.elim _ _
    obtain ⟨h, e⟩ := load_word hr inb y
    exact e.trans_lt (src_lt h)
  rw [wp_assume_of _ _ _ _ hu]
  iapply (wp_load 𝒱₀ (thr d L) none Set.univ (m := w) (S := Finset.univ) (Finset.subset_univ _)) $$ Hw
  iintro Hw
  have hv : k0_chk2 (w.view.readAt (Elt F) (Rect.unit (s := S16384) ![16 * k] S16.size inb).toLoadRect tw) := by
    intro x y
    obtain rfl : x = 0 := Subsingleton.elim _ _
    obtain ⟨h, e⟩ := load_word hw inb y
    exact e.trans_lt (dst_lt h)
  rw [wp_assume_of _ _ _ _ hv]
  iapply (SparseCore.wp_vectorLoadIdx 𝒱₀ (thr d L) none Set.univ (base := a) (S := a.view.set) (by rw [acc_set])) $$ Ha
  iintro Ha
  iapply (SparseCore.wp_vectorStoreIdx 𝒱₀ (thr d L) none Set.univ (base := b)) $$ [Hb]
  · rw [acc_set]; iexact Hb
  iintro Hb
  rw [wp_ret, acc_set]
  imodintro
  iframe
  iexists _
  iframe
  ipureintro
  intro p h hp
  refine (congrFun (acc_read b.view _).symm _).trans ((congrFun (View.read_write_univ (Val := Elt F) _ _) _).trans ?_)
  have ea : (a.access (Rect.whole S16384)).read (Elt F) f = a.view.read (Elt F) f := acc_read _ _
  have eb : (b.access (Rect.whole S16384)).read (Elt F) g = b.view.read (Elt F) g := acc_read _ _
  rw [ea, eb]
  refine store_perm (F := F) _ _ _ _ _ _ (16 * k) (load_word hr inb) (load_word hw inb) _ ?_
  by_cases hp' : p < 16 * k
  · exact .inr (hg p h hp')
  · exact .inl ⟨⟨p - 16 * k, by omega⟩, by rw [ix_val]; congr 1; show p = 16 * k + (p - 16 * k); omega⟩

/-- What the loop ends with: the block written holds the permuted block. -/
def laneDone (r w : Memref sig .scVector .vmem S16384 .i32) (a b : Memref sig .scVector .vmem S16384 .f32)
    (tr : Buf (Elt F) (r.view.loc (thr d L))) (tw : Buf (Elt F) (w.view.loc (thr d L))) (f : Buf (Elt F) (a.view.loc (thr d L))) : sProp 𝕄 :=
  iprop((r.view.loc (thr d L) ↦{fullShare} tr) ∗ (w.view.loc (thr d L) ↦{fullShare} tw) ∗ (a.view.loc (thr d L) ↦[a.view.set]{fullShare} f)
    ∗ ∃ g, ⌜b.view.read (Elt F) g = perm (a.view.read (Elt F) f)⌝ ∗ b.view.loc (thr d L) ↦[b.view.set]{fullShare} g)

omit [FloatOps F] in
theorem laneInv_done (r w : Memref sig .scVector .vmem S16384 .i32) (a b : Memref sig .scVector .vmem S16384 .f32)
    (tr : Buf (Elt F) (r.view.loc (thr d L))) (tw : Buf (Elt F) (w.view.loc (thr d L))) (f : Buf (Elt F) (a.view.loc (thr d L))) :
    laneInv d L r w a b tr tw f 1024 ⊢ laneDone d L r w a b tr tw f := by
  unfold laneInv laneDone
  iintro ⟨Hr, Hw, Ha, %g, %hg, Hb⟩
  iframe
  iexists g
  iframe
  ipureintro
  funext y
  obtain ⟨p, hp, e⟩ := dst_surj (idx_lt y)
  have := hg p hp (by omega)
  rw [show (ix (dstOf p) (dst_lt hp) : S16384.Idx) = y from idx_ext (by rw [ix_val]; exact e)] at this
  exact this

/-- The inner loop at the head of a program. -/
theorem lanes_loop (r w : Memref sig .scVector .vmem S16384 .i32) (a b : Memref sig .scVector .vmem S16384 .f32)
    (tr : Buf (Elt F) (r.view.loc (thr d L))) (tw : Buf (Elt F) (w.view.loc (thr d L))) (f : Buf (Elt F) (a.view.loc (thr d L)))
    (g : Buf (Elt F) (b.view.loc (thr d L)))
    (hr : Holds srcOf (r.view.read (Elt F) tr)) (hw : Holds dstOf (w.view.read (Elt F) tw))
    (loop : Scf.Loop 32) (hok : loop.OK) (htr : loop.trips = 1024)
    (body : Fin loop.trips → Unit → Prog (TpuEff nD τ sig (Elt F) Λ₀ (.scVector (cV L) (jV L))) Unit)
    (hbody : ∀ k acc, ∃ off inb, off = ![16 * k.val] ∧ body k acc = lanes L r w a b off inb)
    {β : Type} {kk : Unit → Prog (TpuEff nD τ sig (Elt F) Λ₀ (.scVector (cV L) (jV L))) β} {Q : β → sProp 𝕄} :
    ⊢ iprop((r.view.loc (thr d L) ↦{fullShare} tr) -∗ (w.view.loc (thr d L) ↦{fullShare} tw) -∗ (a.view.loc (thr d L) ↦[a.view.set]{fullShare} f)
      -∗ (b.view.loc (thr d L) ↦[b.view.set]{fullShare} g)
      -∗ (laneDone d L r w a b tr tw f -∗ wp frame (wpE (defs₀ (F := F)) 𝒱₀ (thr d L) none) Set.univ (kk ⟨⟩) Q)
      -∗ wp frame (wpE (defs₀ (F := F)) 𝒱₀ (thr d L) none) Set.univ (Scf.Loop.for loop hok ⟨⟩ body >>= kk) Q) := by
  iintro Hr Hw Ha Hb Hk
  iapply (Scf.wp_for_bind frame (wpE (defs₀ (F := F)) 𝒱₀ (thr d L) none) Set.univ loop.lb loop.ub loop.st hok ⟨⟩ body
    (fun k _ => laneInv d L r w a b tr tw f k) (fun k acc => by
      obtain ⟨off, inb, hoff, e⟩ := hbody k acc
      rw [e]
      exact lanes_step d L r w a b tr tw f hr hw off inb k.val hoff)) $$ [Hr Hw Ha Hb]
  · unfold laneInv
    iframe
    iexists g
    iframe
    ipureintro
    intro p _ h; omega
  · iintro %acc Hi
    iapply Hk
    ihave Hi' := (Entails.of_eq (congrArg (laneInv d L r w a b tr tw f) htr)) $$ Hi
    iapply (laneInv_done d L r w a b tr tw f) $$ Hi'

end Lanes

end Cert.Proof.K

end
-- ==== Proof.Rules.lean ====
/-
  The rules the body runs by: starting the copy of a block in, starting the copy of a permuted block out, waiting for
  either — what each flight delivers stated by the array's values.
-/
module

public import proofs.«01_k».proof.Proof.Lane

@[expose] public section

noncomputable section

namespace Cert.Proof.K

open Cert.KernelIdeal Cert.KernelIdeal.Gen Cert.Proof.Tables

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Halves of the scratch buffers, blocks of the arrays -/

/-- The 16384 elements from `o` of a two-block scratch buffer. -/
abbrev half (b : Memref sig .scVector .vmem S32768 .f32) (o : Nat) (inb : ∀ a, (![o] : Fin 1 → Nat) a + S16384.size a ≤ S32768.size a) :
    Memref sig .scVector .vmem S16384 .f32 := b.slice (Rect.unit (s := S32768) ![o] S16384.size inb) (fun _ => rfl)
/-- The 16384 elements from `n` of an array. -/
abbrev blk (b : Memref sig .scVector .hbm S12582912 .f32) (n : Nat) (inb : ∀ a, (![n] : Fin 1 → Nat) a + S16384.size a ≤ S12582912.size a) :
    Memref sig .scVector .hbm S16384 .f32 := b.slice (Rect.unit (s := S12582912) ![n] S16384.size inb) (fun _ => rfl)

theorem bI_set (o : Nat) (inb) : (half bI o inb).view.set = Iv o (o + 16384) := (View.set_slice_whole _ _).trans (unit_set inb)
theorem bO_set (o : Nat) (inb) : (half bO o inb).view.set = Iv o (o + 16384) := (View.set_slice_whole _ _).trans (unit_set inb)
theorem oV_set (n : Nat) (inb) : (blk oV n inb).view.set = Iv n (n + 16384) := (View.set_slice_whole _ _).trans (unit_set inb)

theorem unit_emb {N n k : Nat} (inb) (p : Nat) (hp : p < k) (h : n + p < N) :
    (Rect.unit (s := Row N) ![n] ![k] inb).emb (ix (N := k) p hp) = ix (n + p) h := by
  apply idx_ext
  rw [Rect.emb_apply]
  show n + 1 * p = n + p
  omega

theorem bI_emb (o : Nat) (inb) (p : Nat) (hp : p < 16384) (h : o + p < 32768) : (half bI o inb).view.emb (ix p hp) = ix (o + p) h := unit_emb inb p hp h
theorem bO_emb (o : Nat) (inb) (p : Nat) (hp : p < 16384) (h : o + p < 32768) : (half bO o inb).view.emb (ix p hp) = ix (o + p) h := unit_emb inb p hp h
theorem oV_emb (o : Nat) (inb) (p : Nat) (hp : p < 16384) (h : o + p < 12582912) : (blk oV o inb).view.emb (ix p hp) = ix (o + p) h := unit_emb inb p hp h
theorem xV_emb (o : Nat) (inb) (p : Nat) (hp : p < 16384) (h : o + p < 12582912) : (blk xV o inb).view.emb (ix p hp) = ix (o + p) h := unit_emb inb p hp h

theorem bI_read (o : Nat) (inb) (f : S32768.Idx → Elt F .f32) (p : Nat) (hp : p < 16384) (h : o + p < 32768) :
    (half bI o inb).view.read (Elt F) f (ix p hp) = f (ix (o + p) h) := congrArg f (bI_emb o inb p hp h)
theorem bO_read (o : Nat) (inb) (f : S32768.Idx → Elt F .f32) (p : Nat) (hp : p < 16384) (h : o + p < 32768) :
    (half bO o inb).view.read (Elt F) f (ix p hp) = f (ix (o + p) h) := congrArg f (bO_emb o inb p hp h)
theorem oV_read (o : Nat) (inb) (f : S12582912.Idx → Elt F .f32) (p : Nat) (hp : p < 16384) (h : o + p < 12582912) :
    (blk oV o inb).view.read (Elt F) f (ix p hp) = f (ix (o + p) h) := congrArg f (oV_emb o inb p hp h)
theorem xV_read (o : Nat) (inb) (f : S12582912.Idx → Elt F .f32) (p : Nat) (hp : p < 16384) (h : o + p < 12582912) :
    (blk xV o inb).view.read (Elt F) f (ix p hp) = f (ix (o + p) h) := congrArg f (xV_emb o inb p hp h)

/-- What a copy in, and a copy out, credits its cell. -/
abbrev NI : ℕ := (half bI 0 inb_S32768_S16384_0).view.dmaCredit
abbrev NO : ℕ := (blk oV 0 inb_S12582912_S16384_0).view.dmaCredit

theorem NI_pos : 0 < NI := View.amount_pos (half bI 0 inb_S32768_S16384_0).view (.dma ⟨0, by decide⟩) (show 0 < S16384.numel by decide)
theorem NO_pos : 0 < NO := View.amount_pos (blk oV 0 inb_S12582912_S16384_0).view (.dma ⟨0, by decide⟩) (show 0 < S16384.numel by decide)

section Rules

variable (d : Dev nD) (L : grid0.Coords) (X : S12582912.Idx → Elt F .f32)

/-- Half `o` of the buffer of blocks read, at some contents; of the buffer of blocks to write. -/
def inAny (o : Nat) : sProp 𝕄 := iprop(∃ f : S32768.Idx → Elt F .f32, bI.view.loc (thr d L) ↦[Iv o (o + 16384)]{fullShare} f)
def outAny (o : Nat) : sProp 𝕄 := iprop(∃ f : S32768.Idx → Elt F .f32, bO.view.loc (thr d L) ↦[Iv o (o + 16384)]{fullShare} f)

/-- Half `o` holds the 16384 elements of `X` from `n`. -/
def IsBlk (o n : Nat) (f : S32768.Idx → Elt F .f32) : Prop :=
  ∀ p (_ : p < 16384) (h : o + p < 32768) (h' : n + p < 12582912), f (ix (o + p) h) = X (ix (n + p) h')
/-- Half `o` holds the 16384 elements of the result from `n`. -/
def IsOut (o n : Nat) (f : S32768.Idx → Elt F .f32) : Prop :=
  ∀ p (_ : p < 16384) (h : o + p < 32768) (h' : n + p < 12582912), f (ix (o + p) h) = OUT X (ix (n + p) h')

/-- What a copy in delivers; a copy out. -/
def inF (q : PosShare TreeShare) (o n : Nat) : sProp 𝕄 :=
  iprop((∃ f : S32768.Idx → Elt F .f32, ⌜IsBlk X o n f⌝ ∗ bI.view.loc (thr d L) ↦[Iv o (o + 16384)]{fullShare} f) ∗ (xLoc d ↦{q} X))
def outF (o n : Nat) : sProp 𝕄 :=
  iprop((oLoc d ↦[Iv n (n + 16384)]{fullShare} OUT X) ∗ outAny (F := F) d L o)

variable {O : CellTallies nD τ sig (HIx 1)} {W : Waits sig (HIx 1)}

/-- What the thread owes, its waits recorded at no round besides `W`. -/
def Ow (O : CellTallies nD τ sig (HIx 1)) (W : Waits sig (HIx 1)) : sProp 𝕄 :=
  iprop(∃ W', ⌜∀ p ∈ W', p ∈ W ∨ p.2 = none⌝ ∗ owes (thr d L) O W')

abbrev Fl (sem : DmaSem sig) (N : ℕ) (R : sProp 𝕄) : sProp 𝕄 := Transfers.Flight countersEmb (thr d L) (.dma sem) (default : HIx 1) N R

variable [FloatOps F]
/-- The wait for a flight. -/
theorem wait_rule {s : Shape} {sp sp' : Space} {e : EltTy} {sem : DmaSem sig} {src : Memref sig .scVector sp' s e} {dst : Memref sig .scVector sp s e} {N : ℕ} {R : sProp 𝕄}
    {h1 h2} (hN : dst.view.dmaCredit = N)
    {β : Type} {kk : PUnit → Prog (TpuEff nD τ sig (Elt F) Λ₀ (.scVector (cV L) (jV L))) β} {Q : β → sProp 𝕄} :
    ⊢ iprop(Transfers.MayWaits (thr d L) (default : HIx 1) O -∗ Fl d L sem N R -∗ Ow d L O W
      -∗ (R -∗ semVal (thr d L, .dma sem) 0 -∗ Ow d L O W -∗ wp frame (wpE (defs₀ (F := F)) 𝒱₀ (thr d L) none) Set.univ (kk ⟨⟩) Q)
      -∗ wp frame (wpE (defs₀ (F := F)) 𝒱₀ (thr d L) none) Set.univ (.op (.waitDma2 sem src dst h1 h2) kk) Q) := by
  unfold Ow
  iintro Hmw Hfl ⟨%W', %hW', HO⟩ Hk
  iapply (Transfers.wp_waitLocalO countersEmb 𝒱₀ (thr d L) none (default : HIx 1) hN) $$ [Hmw Hfl HO]
  · iframe Hfl HO
    iapply (Transfers.MayWaits.elim (SemLoc.dma sem)) $$ Hmw
  iintro ⟨HR, Hs, HO⟩
  iapply Hk $$ HR Hs
  iexists _
  iframe
  ipureintro
  intro p hp
  rcases Finset.mem_insert.mp hp with hp | hp
  · exact .inr (hp ▸ rfl)
  · exact hW' p hp

/-- Starting the copy of the block of `X` from `n` into half `o`. -/
theorem load_rule {q : PosShare TreeShare} {o n : Nat} (off : Fin 1 → Nat) (hoff : off = ![n]) {inb inb'} {sem : DmaSem sig} {h1 h2 h3}
    {β : Type} {kk : PUnit → Prog (TpuEff nD τ sig (Elt F) Λ₀ (.scVector (cV L) (jV L))) β} {Q : β → sProp 𝕄} :
    ⊢ iprop((xLoc d ↦{q} X) -∗ inAny (F := F) d L o -∗ semVal (thr d L, .dma sem) 0
      -∗ (Fl d L sem NI (inF d L X q o n) -∗ wp frame (wpE (defs₀ (F := F)) 𝒱₀ (thr d L) none) Set.univ (kk ⟨⟩) Q)
      -∗ wp frame (wpE (defs₀ (F := F)) 𝒱₀ (thr d L) none) Set.univ
        (.op (.enqueueDma (xV.slice (Rect.unit (s := S12582912) off S16384.size inb') (fun _ => rfl)) (.here (half bI o inb)) (.dma sem) h1 h2 h3) kk) Q) := by
  subst hoff
  unfold inAny
  iintro Hx ⟨%f, Hb⟩ Hs Hk
  iapply (Transfers.wp_dmaFromWhole countersEmb 𝒱₀ (thr d L) none (src := blk xV n inb') (dst := half bI o inb) (sm := .dma sem) (default : HIx 1) NI rfl
    NI_pos (Sd := Iv o (o + 16384)) (by rw [bI_set])) $$ [Hx Hb Hs]
  · iframe
  iintro Hfl
  iapply Hk
  iapply (Transfers.Flight_mono countersEmb (thr d L) (?_ : _ ⊢ inF d L X q o n)) $$ Hfl
  unfold inF
  iintro ⟨Hb, Hx⟩
  iframe Hx
  iexists _
  isplitr
  swap
  · iexact Hb
  ipureintro
  intro p hp h h'
  refine (bI_read o inb _ p hp h).symm.trans ((congrFun (View.read_write_univ (Val := Elt F) _ _) _).trans ?_)
  exact xV_read n inb' X p hp h'

omit [FloatOps F] in
/-- A block of the result written from half `o`. -/
theorem out_value {o n : Nat} {inb inb'} (g : S32768.Idx → Elt F .f32) (hg : IsOut X o n g) (y : S12582912.Idx → Elt F .f32) :
    (oLoc d ↦[Iv n (n + 16384)]{fullShare} (blk oV n inb').view.write (Elt F) y ((half bO o inb).view.read (Elt F) g) Finset.univ : sProp 𝕄)
      = oLoc d ↦[Iv n (n + 16384)]{fullShare} OUT X := by
  refine pointsTo_congr fun i hi => ?_
  rw [mem_Iv] at hi
  have h1 : (i 0).val < 12582912 := idx_lt i
  have ho : o + 16384 ≤ 32768 := inb 0
  obtain ⟨p, hp, e⟩ : ∃ p, p < 16384 ∧ n + p = (i 0).val := ⟨(i 0).val - n, by omega, by omega⟩
  have hn : n + p < 12582912 := by omega
  obtain rfl : ix (n + p) hn = i := idx_ext e
  refine (oV_read n inb' _ p hp (by omega)).symm.trans ((congrFun (View.read_write_univ (Val := Elt F) _ _) _).trans ?_)
  exact (bO_read o inb g p hp (by omega)).trans (hg p hp _ _)

/-- Starting the copy of half `o` out to the block of the result from `n`. -/
theorem store_rule {o n : Nat} (off : Fin 1 → Nat) (hoff : off = ![n]) {inb inb'} {sem : DmaSem sig} {h1 h2 h3}
    (g : S32768.Idx → Elt F .f32) (hg : IsOut X o n g) (y : S12582912.Idx → Elt F .f32)
    {β : Type} {kk : PUnit → Prog (TpuEff nD τ sig (Elt F) Λ₀ (.scVector (cV L) (jV L))) β} {Q : β → sProp 𝕄} :
    ⊢ iprop((bO.view.loc (thr d L) ↦[Iv o (o + 16384)]{fullShare} g) -∗ (oLoc d ↦[Iv n (n + 16384)]{fullShare} y) -∗ semVal (thr d L, .dma sem) 0
      -∗ (Fl d L sem NO (outF d L X o n) -∗ wp frame (wpE (defs₀ (F := F)) 𝒱₀ (thr d L) none) Set.univ (kk ⟨⟩) Q)
      -∗ wp frame (wpE (defs₀ (F := F)) 𝒱₀ (thr d L) none) Set.univ
        (.op (.enqueueDma (half bO o inb) (.here (oV.slice (Rect.unit (s := S12582912) off S16384.size inb') (fun _ => rfl))) (.dma sem) h1 h2 h3) kk) Q) := by
  subst hoff
  iintro Hb Ho Hs Hk
  iapply (Transfers.wp_dmaLocal countersEmb 𝒱₀ (thr d L) none (src := half bO o inb) (dst := blk oV n inb') (sm := .dma sem) (default : HIx 1) NO rfl
    NO_pos (Sd := Iv n (n + 16384)) (fs := g) (fd := y) (q := fullShare) (by rw [oV_set])) $$ [Hb Ho Hs]
  · rw [bO_set]
    iframe
  iintro Hfl
  iapply Hk
  iapply (Transfers.Flight_mono countersEmb (thr d L) (?_ : _ ⊢ outF d L X o n)) $$ Hfl
  unfold outF outAny
  rw [bO_set]
  iintro ⟨Ho, Hb⟩
  isplitl [Ho]
  · iapply (Entails.of_eq (out_value d X g hg y)) $$ Ho
  iexists g
  iexact Hb

end Rules

end Cert.Proof.K

end
-- ==== Proof.Trip.lean ====
/-
  One trip of the main loop: the second half's load started, the first half's block waited for, permuted and sent out;
  then the same with the halves' roles exchanged. What holds between trips, and that a trip keeps it.
-/
module

public import proofs.«01_k».proof.Proof.Rules

@[expose] public section

noncomputable section

namespace Cert.Proof.K

open Cert.KernelIdeal Cert.KernelIdeal.Gen Cert.Proof.Tables

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The positions of a tile's blocks, the copies' cells, the branches' conditions -/

/-- Where the tile's slab starts, and the block of half `o` in trip `t`. -/
def base (L : grid0.Coords) : Nat := 786432 * (L 1).val + 393216 * (L 0).val
def pos (L : grid0.Coords) (t o : Nat) : Nat := base L + 32768 * t + o

abbrev cellI0 : DmaSem sig := ((SemArray.slice cc0_scratch4 (Rect.unit (s := S2) ![0] S1.size inb_S2_S1_0)).squeeze S_ squeezes_S1_S_).sem
abbrev cellI1 : DmaSem sig := ((SemArray.slice cc0_scratch4 (Rect.unit (s := S2) ![1] S1.size inb_S2_S1_1)).squeeze S_ squeezes_S1_S_).sem
abbrev cellO0 : DmaSem sig := ((SemArray.slice cc0_scratch5 (Rect.unit (s := S2) ![0] S1.size inb_S2_S1_0)).squeeze S_ squeezes_S1_S_).sem
abbrev cellO1 : DmaSem sig := ((SemArray.slice cc0_scratch5 (Rect.unit (s := S2) ![1] S1.size inb_S2_S1_1)).squeeze S_ squeezes_S1_S_).sem

theorem trips1 : k0_t1_loop.trips = 12 := by decide
theorem trips2 : k0_t2_loop.trips = 1024 := by decide
theorem trips3 : k0_t3_loop.trips = 1024 := by decide
theorem cond1 : ∀ k : Fin k0_t1_loop.trips, k0_cond1 k = 1#1 := by decide
theorem cond3 : ∀ k : Fin k0_t1_loop.trips, k0_cond3 k = 1#1 ↔ k.val + 1 < 12 := by decide
theorem cond2 : ∀ k : Fin k0_t1_loop.trips,
    Scalar.cmpi .ne (Scalar.extui (Scalar.cmpi .sge (Scalar.addi (Scalar.addi 0#32 (Scalar.muli (Scf.iv 0#32 1#32 k) 2#32)) 0#32) 2#32) : BitVec 32) 0#32 = 1#1
      ↔ 1 ≤ k.val := by decide
theorem cond4 : ∀ k : Fin k0_t1_loop.trips,
    Scalar.cmpi .ne (Scalar.extui (Scalar.cmpi .sge (Scalar.addi (Scalar.addi 0#32 (Scalar.muli (Scf.iv 0#32 1#32 k) 2#32)) 1#32) 2#32) : BitVec 32) 0#32 = 1#1
      ↔ 1 ≤ k.val := by decide

theorem pos_div (L : grid0.Coords) (t o : Nat) (ho : 4096 ∣ o) : 4096 ∣ pos L t o := by
  unfold pos base; omega

/-- The generated offsets are those positions. -/
theorem off_out0 (L : grid0.Coords) (k : Fin k0_t1_loop.trips) : k0_off4 L k 0#32 = ![pos L k.val 0] := by
  refine (k0_off4_eq L k 0).trans (congrArg (fun n => ![n]) ?_)
  unfold pos base
  rw [show ((0 : Fin 2).val) = 0 from rfl]
theorem off_out1 (L : grid0.Coords) (k : Fin k0_t1_loop.trips) : k0_off4 L k 1#32 = ![pos L k.val 16384] := by
  refine (k0_off4_eq L k 1).trans (congrArg (fun n => ![n]) ?_)
  unfold pos base
  rw [show ((1 : Fin 2).val) = 1 from rfl]
theorem off_in1 (L : grid0.Coords) (k : Fin k0_t1_loop.trips) : k0_off2 L k = ![pos L k.val 16384] := k0_off2_eq L k
theorem off_in0 (L : grid0.Coords) (k : Fin k0_t1_loop.trips) : k0_off5 L k = ![pos L (k.val + 1) 0] := by
  refine (k0_off5_eq L k).trans (congrArg (fun n => ![n]) ?_)
  unfold pos base
  omega
theorem off_first (L : grid0.Coords) : k0_off1 L = ![pos L 0 0] := by
  refine (k0_off1_eq L).trans (congrArg (fun n => ![n]) ?_)
  unfold pos base
  omega

section Trip

variable (d : Dev nD) (L : grid0.Coords) (X o0 : S12582912.Idx → Elt F .f32) (q0 q1 : PosShare TreeShare)
variable (tr : Buf (Elt F) (sR.view.loc (thr d L))) (tw : Buf (Elt F) (sW.view.loc (thr d L)))
variable (O : CellTallies nD τ sig (HIx 1)) (W : Waits sig (HIx 1))

/-- Half `o` of the buffer to write before trip `t`: at hand before the first, on its way out before the others. -/
def outSt (sem : DmaSem sig) (o : Nat) : Nat → sProp 𝕄
  | 0 => iprop(outAny (F := F) d L o ∗ semVal (thr d L, .dma sem) 0)
  | t + 1 => Fl d L sem NO (outF d L X o (pos L t o))

/-- The block of the result that half `o` brought out in the trip before `t`. -/
def piece (o : Nat) : Nat → sProp 𝕄
  | 0 => iprop(emp)
  | t + 1 => oLoc d ↦[Iv (pos L t o) (pos L t o + 16384)]{fullShare} OUT X

theorem outSt_zero (sem : DmaSem sig) (o : Nat) : outSt d L X sem o 0 = iprop(outAny (F := F) d L o ∗ semVal (thr d L, .dma sem) 0) := rfl
theorem outSt_succ (sem : DmaSem sig) (o t : Nat) : outSt d L X sem o (t + 1) = Fl d L sem NO (outF d L X o (pos L t o)) := rfl
theorem piece_zero (o : Nat) : piece d L X o 0 = iprop(emp) := rfl
theorem piece_succ (o t : Nat) : piece d L X o (t + 1) = oLoc d ↦[Iv (pos L t o) (pos L t o + 16384)]{fullShare} OUT X := rfl

/-- The first half of the buffer read, before trip `t`: being filled with the trip's first block. -/
def inSt (t : Nat) : sProp 𝕄 :=
  if t < 12 then Fl d L cellI0 NI (inF d L X q0 0 (pos L t 0))
  else iprop(inAny (F := F) d L 0 ∗ (xLoc d ↦{q0} X) ∗ semVal (thr d L, .dma cellI0) 0)

theorem inF_eq (q : PosShare TreeShare) (o n : Nat) : inF d L X q o n
    = iprop((∃ f : S32768.Idx → Elt F .f32, ⌜IsBlk X o n f⌝ ∗ bI.view.loc (thr d L) ↦[Iv o (o + 16384)]{fullShare} f) ∗ (xLoc d ↦{q} X)) := rfl
theorem inSt_pos {t : Nat} (h : t < 12) : inSt d L X q0 t = Fl d L cellI0 NI (inF d L X q0 0 (pos L t 0)) := if_pos h
theorem inSt_neg {t : Nat} (h : ¬t < 12) :
    inSt d L X q0 t = iprop(inAny (F := F) d L 0 ∗ (xLoc d ↦{q0} X) ∗ semVal (thr d L, .dma cellI0) 0) := if_neg h

/-- The part of the slab known written before trip `t`, and the part not yet begun. -/
def done (t : Nat) : sProp 𝕄 := oLoc d ↦[Iv (base L) (base L + 32768 * (t - 1))]{fullShare} OUT X
def rest (t : Nat) : sProp 𝕄 := oLoc d ↦[Iv (pos L t 0) (pos L 12 0)]{fullShare} o0

/-- What holds before trip `t`. -/
def tripInv (t : Nat) : sProp 𝕄 :=
  iprop(Transfers.MayWaits (thr d L) (default : HIx 1) O
    ∗ (sR.view.loc (thr d L) ↦{fullShare} tr) ∗ (sW.view.loc (thr d L) ↦{fullShare} tw)
    ∗ inSt d L X q0 t ∗ inAny (F := F) d L 16384 ∗ (xLoc d ↦{q1} X) ∗ semVal (thr d L, .dma cellI1) 0
    ∗ outSt d L X cellO0 0 t ∗ outSt d L X cellO1 16384 t ∗ done d L X t ∗ rest d L o0 t ∗ Ow d L O W)

theorem done_step (t : Nat) : iprop(done d L X t ∗ piece d L X 0 t ∗ piece d L X 16384 t) ⊢ done d L X (t + 1) := by
  cases t with
  | zero =>
    iintro ⟨H, -, -⟩
    iexact H
  | succ t =>
    rw [piece_succ, piece_succ]
    unfold done
    have e0 : pos L t 0 = base L + 32768 * t := by unfold pos; omega
    have e1 : pos L t 16384 = base L + 32768 * t + 16384 := by unfold pos; omega
    rw [e0, e1, show t + 1 - 1 = t by omega, show t + 1 + 1 - 1 = t + 1 by omega,
      ← Iv_union (N := 12582912) (a := base L) (b := base L + 32768 * t) (c := base L + 32768 * (t + 1)) (by omega) (by omega),
      ← Iv_union (N := 12582912) (a := base L + 32768 * t) (b := base L + 32768 * t + 16384) (c := base L + 32768 * (t + 1)) (by omega) (by omega),
      show base L + 32768 * t + 16384 + 16384 = base L + 32768 * (t + 1) by omega]
    refine .trans (sep_mono .rfl (pointsTo_union (Iv_disjoint (by omega))).2) ?_
    refine (pointsTo_union ?_).2
    rw [Iv_union (by omega) (by omega)]
    exact Iv_disjoint (by omega)

theorem rest_step (t : Nat) (ht : t < 12) : rest d L o0 t ⊢ iprop((oLoc d ↦[Iv (pos L t 0) (pos L t 0 + 16384)]{fullShare} o0)
    ∗ (oLoc d ↦[Iv (pos L t 16384) (pos L t 16384 + 16384)]{fullShare} o0) ∗ rest d L o0 (t + 1)) := by
  unfold rest
  have e0 : pos L t 0 = base L + 32768 * t := by unfold pos; omega
  have e1 : pos L t 16384 = base L + 32768 * t + 16384 := by unfold pos; omega
  have e2 : pos L (t + 1) 0 = base L + 32768 * t + 32768 := by unfold pos; omega
  have e3 : pos L 12 0 = base L + 393216 := by unfold pos; omega
  rw [e0, e1, e2, e3,
    ← Iv_union (N := 12582912) (a := base L + 32768 * t) (b := base L + 32768 * t + 16384) (c := base L + 393216) (by omega) (by omega),
    ← Iv_union (N := 12582912) (a := base L + 32768 * t + 16384) (b := base L + 32768 * t + 32768) (c := base L + 393216) (by omega) (by omega),
    show base L + 32768 * t + 16384 + 16384 = base L + 32768 * t + 32768 by omega]
  refine .trans (pointsTo_union ?_).1 (sep_mono .rfl (pointsTo_union (Iv_disjoint (by omega))).1)
  rw [Iv_union (by omega) (by omega)]
  exact Iv_disjoint (by omega)

variable [FloatOps F]

/-- The wait for the half's copy out of two trips before, if there was one. -/
theorem wait_if (t o : Nat) {c : Prop} [Decidable c] (hc : c ↔ 1 ≤ t) {sp : Space} {sem : DmaSem sig} {src : Memref sig .scVector sp S16384 .f32}
    {dst : Memref sig .scVector .hbm S16384 .f32} {h1 h2} (hN : dst.view.dmaCredit = NO)
    {β : Type} {kk : Prog (TpuEff nD τ sig (Elt F) Λ₀ (.scVector (cV L) (jV L))) β} {Q : β → sProp 𝕄} :
    ⊢ iprop(Transfers.MayWaits (thr d L) (default : HIx 1) O -∗ outSt d L X sem o t -∗ Ow d L O W
      -∗ (outAny (F := F) d L o -∗ semVal (thr d L, .dma sem) 0 -∗ Ow d L O W -∗ piece d L X o t
        -∗ wp frame (wpE (defs₀ (F := F)) 𝒱₀ (thr d L) none) Set.univ kk Q)
      -∗ wp frame (wpE (defs₀ (F := F)) 𝒱₀ (thr d L) none) Set.univ
        (dite c (fun _ => .op (.waitDma2 sem src dst h1 h2) (fun _ => kk)) (fun _ => kk)) Q) := by
  cases t with
  | zero =>
    rw [dif_neg (fun h => absurd (hc.1 h) (by omega)), outSt_zero, piece_zero]
    iintro - ⟨Ha, Hs⟩ HO Hk
    iapply Hk $$ Ha Hs HO []
    iempintro
  | succ t =>
    rw [dif_pos (hc.2 (by omega)), outSt_succ, piece_succ]
    iintro Hmw Hf HO Hk
    iapply (wait_rule d L (R := outF d L X o (pos L t o)) hN) $$ Hmw Hf HO
    unfold outF
    iintro ⟨Hp, Ha⟩ Hs HO
    iapply Hk $$ Ha Hs HO Hp

/-- The start of the next trip's first load, if there is a next trip. -/
theorem start_if (t : Nat) {c : Prop} [Decidable c] (hc : c ↔ t + 1 < 12) (off : Fin 1 → Nat) (hoff : off = ![pos L (t + 1) 0])
    {inb} {inb' : ∀ _ : c, _} {h1 h2 h3 : ∀ _ : c, _}
    {β : Type} {kk : Prog (TpuEff nD τ sig (Elt F) Λ₀ (.scVector (cV L) (jV L))) β} {Q : β → sProp 𝕄} :
    ⊢ iprop(inAny (F := F) d L 0 -∗ (xLoc d ↦{q0} X) -∗ semVal (thr d L, .dma cellI0) 0
      -∗ (inSt d L X q0 (t + 1) -∗ wp frame (wpE (defs₀ (F := F)) 𝒱₀ (thr d L) none) Set.univ kk Q)
      -∗ wp frame (wpE (defs₀ (F := F)) 𝒱₀ (thr d L) none) Set.univ
        (dite c (fun h => .op (.enqueueDma (xV.slice (Rect.unit (s := S12582912) off S16384.size (inb' h)) (fun _ => rfl)) (.here (half bI 0 inb)) (.dma cellI0)
          (h1 h) (h2 h) (h3 h)) (fun _ => kk)) (fun _ => kk)) Q) := by
  by_cases h : t + 1 < 12
  · rw [dif_pos (hc.2 h)]
    unfold inSt
    rw [if_pos h]
    iintro Ha Hx Hs Hk
    iapply (load_rule d L X off hoff) $$ Hx Ha Hs
    iintro Hf
    iapply Hk $$ Hf
  · rw [dif_neg (fun hh => h (hc.1 hh))]
    unfold inSt
    rw [if_neg h]
    iintro Ha Hx Hs Hk
    iapply Hk
    iframe

/-- One block permuted from half `o` to half `o`. -/
theorem block_rule (o n : Nat) (hn : 4096 ∣ n) (hn' : n + 16384 ≤ 12582912) (f : S32768.Idx → Elt F .f32) (hf : IsBlk X o n f)
    (hr : Holds srcOf (sR.view.read (Elt F) tr)) (hw : Holds dstOf (sW.view.read (Elt F) tw)) (inb)
    (loop : Scf.Loop 32) (hok : loop.OK) (htr : loop.trips = 1024)
    (body : Fin loop.trips → Unit → Prog (TpuEff nD τ sig (Elt F) Λ₀ (.scVector (cV L) (jV L))) Unit)
    (hbody : ∀ k acc, ∃ off inb', off = ![16 * k.val] ∧ body k acc = lanes L sR sW (half bI o inb) (half bO o inb) off inb')
    {β : Type} {kk : Unit → Prog (TpuEff nD τ sig (Elt F) Λ₀ (.scVector (cV L) (jV L))) β} {Q : β → sProp 𝕄} :
    ⊢ iprop((sR.view.loc (thr d L) ↦{fullShare} tr) -∗ (sW.view.loc (thr d L) ↦{fullShare} tw)
      -∗ (bI.view.loc (thr d L) ↦[Iv o (o + 16384)]{fullShare} f) -∗ outAny (F := F) d L o
      -∗ ((sR.view.loc (thr d L) ↦{fullShare} tr) -∗ (sW.view.loc (thr d L) ↦{fullShare} tw) -∗ inAny (F := F) d L o
        -∗ (∃ g : S32768.Idx → Elt F .f32, ⌜IsOut X o n g⌝ ∗ bO.view.loc (thr d L) ↦[Iv o (o + 16384)]{fullShare} g)
        -∗ wp frame (wpE (defs₀ (F := F)) 𝒱₀ (thr d L) none) Set.univ (kk ⟨⟩) Q)
      -∗ wp frame (wpE (defs₀ (F := F)) 𝒱₀ (thr d L) none) Set.univ (Scf.Loop.for loop hok ⟨⟩ body >>= kk) Q) := by
  unfold outAny inAny
  iintro Hr Hw Hi ⟨%g, Hb⟩ Hk
  iapply (lanes_loop d L sR sW (half bI o inb) (half bO o inb) tr tw f g hr hw loop hok htr body hbody) $$ Hr Hw [Hi] [Hb]
  · rw [bI_set]; iexact Hi
  · rw [bO_set]; iexact Hb
  unfold laneDone
  rw [bI_set, bO_set]
  iintro ⟨Hr, Hw, Hi, %g', %hg, Hb⟩
  iapply Hk $$ Hr Hw [Hi] [Hb]
  · iexists f; iexact Hi
  · iexists g'
    isplitr
    swap
    · iexact Hb
    ipureintro
    intro p hp h h'
    have hs : srcPos p < 16384 := srcPos_lt 4 hp
    have ho : o + 16384 ≤ 32768 := inb 0
    refine (bO_read o inb g' p hp h).symm.trans ((congrFun hg _).trans ?_)
    refine (bI_read o inb f (srcPos p) hs (by omega)).trans ((hf _ hs _ (by omega)).trans ?_)
    show X _ = X _
    congr 1
    apply idx_ext
    exact (srcPos_add hn).symm

theorem pos_le (t o : Nat) (ht : t < 12) (ho : o ≤ 16384) : pos L t o + 16384 ≤ 12582912 := by
  have h0 : (L 0).val < 2 := (L 0).isLt
  have h1 : (L 1).val < 16 := (L 1).isLt
  unfold pos base
  omega

/-- The main loop's body on the kernel's operands. -/
abbrev tripBody : Fin k0_t1_loop.trips → Unit → Prog (TpuEff nD τ sig (Elt F) Λ₀ (.scVector (cV L) (jV L))) Unit :=
  k0_t1_body L xV (Memref.isWhole_whole _) tV (Memref.isWhole_whole _) oV (Memref.isWhole_whole _) sR (Memref.isWhole_whole _)
    sW (Memref.isWhole_whole _) bI (Memref.isWhole_whole _) bO (Memref.isWhole_whole _) cc0_scratch4 cc0_scratch5 cc0_scoped0 cc0_scoped1
    (Scalar.muli (Scalar.muli (Scalar.addi (Scalar.muli (BitVec.ofNat 32 (L 1).val) 2#32) (BitVec.ofNat 32 (L 0).val)) 96#32) 4096#32)

set_option maxHeartbeats 4000000 in
theorem trip (hr : Holds srcOf (sR.view.read (Elt F) tr)) (hw : Holds dstOf (sW.view.read (Elt F) tw)) (k : Fin k0_t1_loop.trips) :
    tripInv d L X o0 q0 q1 tr tw O W k.val
      ⊢ wp frame (wpE (defs₀ (F := F)) 𝒱₀ (thr d L) none) Set.univ (tripBody (F := F) L k ⟨⟩)
          (fun _ => tripInv d L X o0 q0 q1 tr tw O W (k.val + 1)) := by
  have hk : k.val < 12 := trips1 ▸ k.isLt
  unfold tripBody k0_t1_body
  simp only [k0_part1_eq_skeleton]
  unfold k0_part1_skel
  simp only [Prog.lift, Prog.bind_op, Prog.bind_ret, Prog.pure_eq_ret]
  rw [dif_pos (cond1 k), wp_bind]
  unfold tripInv
  iintro ⟨#Hmw, Hr, Hw, Hi0, Hi1, Hx1, Hs1, Ho0, Ho1, Hd, Hrest, HO⟩
  ihave Hrest' := (rest_step d L o0 k.val hk) $$ Hrest
  icases Hrest' with ⟨Hp0, Hp1, Hrest⟩
  -- the second block's copy in
  iapply (load_rule d L X (n := pos L k.val 16384) _ (off_in1 L k)) $$ Hx1 Hi1 Hs1
  iintro Hf1
  -- the first block's
  ihave Hf0 := (Entails.of_eq (inSt_pos d L X q0 hk)) $$ Hi0
  iapply (wait_rule d L (R := inF d L X q0 0 (pos L k.val 0)) rfl) $$ Hmw Hf0 HO
  iintro HF Hs0 HO
  ihave HF := (Entails.of_eq (inF_eq d L X q0 0 (pos L k.val 0))) $$ HF
  icases HF with ⟨⟨%f, %hf, Hi0⟩, Hx0⟩
  iapply (wait_if d L X O W k.val 0 (cond2 k) rfl) $$ Hmw Ho0 HO
  iintro Ho0 Ht0 HO Hq0
  iapply (block_rule d L X tr tw 0 (pos L k.val 0) (pos_div L _ _ (by decide)) (pos_le L _ _ hk (by omega)) f hf hr hw _ k0_t2_loop k0_t2_ok trips2 _
    (fun k' _ => ⟨_, _, k0_off3_eq k', rfl⟩)) $$ Hr Hw Hi0 Ho0
  iintro Hr Hw Hi0 ⟨%g, %hg, Hb⟩
  iapply (store_rule d L X (n := pos L k.val 0) _ (off_out0 L k) g hg o0) $$ Hb Hp0 Ht0
  iintro Hfo0
  rw [wp_ret]
  imodintro
  dsimp only
  -- the next trip's first block
  iapply (start_if d L X q0 k.val (cond3 k) _ (off_in0 L k)) $$ Hi0 Hx0 Hs0
  iintro Hi0
  -- the second block's
  iapply (wait_rule d L (R := inF d L X q1 16384 (pos L k.val 16384)) (dst := half bI 16384 inb_S32768_S16384_16384) (N := NI) rfl) $$ Hmw Hf1 HO
  iintro HF Hs1 HO
  ihave HF := (Entails.of_eq (inF_eq d L X q1 16384 (pos L k.val 16384))) $$ HF
  icases HF with ⟨⟨%f', %hf', Hi1⟩, Hx1⟩
  iapply (wait_if d L X O W k.val 16384 (cond4 k) rfl) $$ Hmw Ho1 HO
  iintro Ho1 Ht1 HO Hq1
  iapply (block_rule d L X tr tw 16384 (pos L k.val 16384) (pos_div L _ _ (by decide)) (pos_le L _ _ hk (by omega)) f' hf' hr hw _ k0_t3_loop k0_t3_ok trips3 _
    (fun k' _ => ⟨_, _, k0_off6_eq k', rfl⟩)) $$ Hr Hw Hi1 Ho1
  iintro Hr Hw Hi1 ⟨%g', %hg', Hb⟩
  iapply (store_rule d L X (n := pos L k.val 16384) _ (off_out1 L k) g' hg' o0) $$ Hb Hp1 Ht1
  iintro Hfo1
  rw [wp_ret]
  imodintro
  ihave Hd' := (done_step d L X k.val) $$ [Hd Hq0 Hq1]
  · iframe
  rw [outSt_succ, outSt_succ]
  iframe
  iexact Hmw

end Trip

end Cert.Proof.K

end
-- ==== Proof.Body.lean ====
/-
  A tile's whole run: the two tables fetched, the first block's load started, the trips, the last two copies out waited
  for — from the tile's slab of the result at anything to that slab at the result.
-/
module

public import proofs.«01_k».proof.Proof.Trip

@[expose] public section

noncomputable section

namespace Cert.Proof.K

open Cert.KernelIdeal Cert.KernelIdeal.Gen Cert.Proof.Tables

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tables -/

/-- The constant array of the two tables. -/
def TAB : S32768.Idx → BitVec 32 := fun i => lit0 (S32768.rowMajor i)

theorem TAB_ix (n : Nat) (h : n < 32768) : TAB (ix n h) = lit0t n := by
  unfold TAB lit0
  exact congrArg lit0t (Shape.rowMajor_val_one (d := ![32768]) (ix n h))

attribute [irreducible] TAB

section Body

variable (d : Dev nD) (L : grid0.Coords) (X o0 : S12582912.Idx → Elt F .f32)
variable (O : CellTallies nD τ sig (HIx 1)) (W : Waits sig (HIx 1))

variable [FloatOps F] in
/-- One table fetched whole into a scratch buffer. -/
theorem table_rule (s : Memref sig .scVector .vmem S16384 .i32) (o : Nat) (q : PosShare TreeShare) (tab : Nat → Nat)
    (htab : ∀ p (_ : p < 16384) (h : o + p < 32768), (TAB (ix (o + p) h)).toNat = tab p) {inb} {sem : DmaSem sig} {h1 h2 h3 h4 h5}
    {β : Type} {kk : PUnit → Prog (TpuEff nD τ sig (Elt F) Λ₀ (.scVector (cV L) (jV L))) β} {Q : β → sProp 𝕄} :
    ⊢ iprop(Transfers.MayWaits (thr d L) (default : HIx 1) O -∗ (tLoc d ↦{q} (TAB : Buf (Elt F) (tLoc d))) -∗ (∃ f, s.view.loc (thr d L) ↦{fullShare} f)
      -∗ semVal (thr d L, .dma sem) 0 -∗ Ow d L O W
      -∗ ((tLoc d ↦{q} (TAB : Buf (Elt F) (tLoc d))) -∗ (∃ t, ⌜Holds tab (s.view.read (Elt F) t)⌝ ∗ s.view.loc (thr d L) ↦{fullShare} t)
        -∗ semVal (thr d L, .dma sem) 0 -∗ Ow d L O W -∗ wp frame (wpE (defs₀ (F := F)) 𝒱₀ (thr d L) none) Set.univ (kk ⟨⟩) Q)
      -∗ wp frame (wpE (defs₀ (F := F)) 𝒱₀ (thr d L) none) Set.univ
        (.op (.enqueueDma (tV.slice (Rect.unit (s := S32768) ![o] S16384.size inb) (fun _ => rfl)) (.here s) (.dma sem) h1 h2 h3)
          fun _ => .op (.waitDma2 sem (tV.slice (Rect.unit (s := S32768) ![o] S16384.size inb) (fun _ => rfl)) s h4 h5) kk) Q) := by
  iintro Hmw Ht ⟨%f, Hb⟩ Hs HO Hk
  iapply (Transfers.wp_dmaFromWhole countersEmb 𝒱₀ (thr d L) none (src := tV.slice (Rect.unit (s := S32768) ![o] S16384.size inb) (fun _ => rfl))
    (dst := s) (sm := .dma sem) (default : HIx 1) s.view.dmaCredit rfl
    (View.amount_pos s.view (.dma sem) (show 0 < S16384.numel by decide)) (Sd := Finset.univ) (Finset.subset_univ _)) $$ [Ht Hb Hs]
  · iframe
  iintro Hfl
  iapply (wait_rule d L (dst := s) rfl) $$ Hmw Hfl HO
  iintro ⟨Hb, Ht⟩ Hs HO
  iapply Hk $$ Ht [Hb] Hs HO
  iexists _
  isplitr
  swap
  · iexact Hb
  ipureintro
  intro p hp
  have ho : o + 16384 ≤ 32768 := inb 0
  rw [View.read_write_univ]
  refine .trans (congrArg BitVec.toNat ?_) (htab p hp (by omega))
  exact congrArg TAB (unit_emb (N := 32768) inb p hp (by omega))

/-! ## The subcore's own buffers and cells -/

/-- Members of a family named in a list, and the rest of it. -/
theorem bigSep_take {ι : Type} [DecidableEq ι] (Φ : ι → sProp 𝕄) : ∀ (l : List ι) (S : Finset ι), l.Nodup → (∀ a ∈ l, a ∈ S) →
    bigSep S Φ = l.foldr (fun a R => iprop(Φ a ∗ R)) (bigSep (S \ l.toFinset) Φ)
  | [], S, _, _ => by simp
  | a :: l, S, hn, hl => by
    rw [List.nodup_cons] at hn
    rw [SparseCore.bigSep_erase' (hl a List.mem_cons_self), bigSep_take Φ l (S.erase a) hn.2 (fun b hb =>
      Finset.mem_erase.2 ⟨fun e => hn.1 (e ▸ hb), hl b (List.mem_cons_of_mem _ hb)⟩)]
    rw [show S.erase a \ l.toFinset = S \ (a :: l).toFinset by
      ext b; simp only [Finset.mem_sdiff, Finset.mem_erase, List.mem_toFinset, List.mem_cons]; tauto]
    rfl

/-- The copies' cells. -/
abbrev cells : List (DmaSem sig) := [cellI0, cellI1, cellO0, cellO1, cc0_scoped0.sem, cc0_scoped1.sem]
abbrev scratch : List (Ref sig .scVector) := [cc0_scratch0, cc0_scratch1, cc0_scratch2, cc0_scratch3]

theorem cells_nodup : cells.Nodup := by decide
theorem cells_scoped : ∀ s ∈ cells, (SemLoc.dma s : SemLoc sig).isScoped .scVector = true := by decide

theorem ownSems0_V : ∃ R : sProp 𝕄, (ownSems0 (thr d L) : sProp 𝕄)
    = iprop(semVal (thr d L, .dma cellI0) 0 ∗ semVal (thr d L, .dma cellI1) 0 ∗ semVal (thr d L, .dma cellO0) 0 ∗ semVal (thr d L, .dma cellO1) 0
      ∗ semVal (thr d L, .dma cc0_scoped0.sem) 0 ∗ semVal (thr d L, .dma cc0_scoped1.sem) 0 ∗ R) := by
  unfold SparseCore.Cfg.ownSems0
  exact ⟨_, bigSep_take _ (cells.map fun s => ((thr d L, SemLoc.dma s) : GSem nD τ sig)) _
    (cells_nodup.map (fun a b e => SemLoc.dma.inj (Prod.mk.inj e).2)) (fun g hg => by
      obtain ⟨s, hs, rfl⟩ := List.mem_map.1 hg
      exact mem_ownCells.mpr ⟨rfl, cells_scoped s hs⟩)⟩

theorem ownBufs_V : ∃ R : sProp 𝕄, (ownBufs (thr d L) : sProp 𝕄)
    = iprop((∃ f, sR.view.loc (thr d L) ↦{fullShare} f) ∗ (∃ f, sW.view.loc (thr d L) ↦{fullShare} f)
      ∗ (∃ f, bI.view.loc (thr d L) ↦{fullShare} f) ∗ (∃ f, bO.view.loc (thr d L) ↦{fullShare} f) ∗ R) := by
  unfold SparseCore.Cfg.ownBufs
  exact ⟨_, bigSep_take _ (scratch.map fun r => (Proc.scVector (cV L) (jV L)).devRef r) _
    (List.Nodup.map (Proc.devRef_injective _) (show scratch.Nodup by decide)) (fun g hg => by
      obtain ⟨r, hr, rfl⟩ := List.mem_map.1 hg
      simp only [List.mem_cons, List.not_mem_nil, or_false] at hr
      rcases hr with rfl | rfl | rfl | rfl <;> exact SparseCore.Cfg.mem_ownRefs_of_owner rfl)⟩

/-! ## The halves of a two-block scratch buffer -/

theorem halves {ℓ : Loc nD τ sig} (A B U : Finset (Idx ℓ)) (hd : Disjoint A B) (hU : A ∪ B = U) :
    (iprop(∃ f, ℓ ↦[U]{fullShare} f) : sProp 𝕄) ⊣⊢ iprop((∃ f, ℓ ↦[A]{fullShare} f) ∗ ∃ f, ℓ ↦[B]{fullShare} f) := by
  subst hU
  constructor
  · iintro ⟨%f, H⟩
    ihave H := (pointsTo_union hd).1 $$ H
    icases H with ⟨H0, H1⟩
    isplitl [H0]
    · iexists f; iexact H0
    · iexists f; iexact H1
  · iintro ⟨⟨%f, H0⟩, %g, H1⟩
    iexists _
    iapply (pointsTo_join hd) $$ [H0 H1]
    iframe

theorem in_halves : (iprop(∃ f, bI.view.loc (thr d L) ↦{fullShare} f) : sProp 𝕄) ⊣⊢ iprop(inAny (F := F) d L 0 ∗ inAny d L 16384) :=
  halves (ℓ := bI.view.loc (thr d L)) (Iv (N := 32768) 0 16384) (Iv (N := 32768) 16384 32768) Finset.univ (Iv_disjoint (by omega))
    ((Iv_union (by omega) (by omega)).trans Iv_univ)
theorem out_halves : (iprop(∃ f, bO.view.loc (thr d L) ↦{fullShare} f) : sProp 𝕄) ⊣⊢ iprop(outAny (F := F) d L 0 ∗ outAny d L 16384) :=
  halves (ℓ := bO.view.loc (thr d L)) (Iv (N := 32768) 0 16384) (Iv (N := 32768) 16384 32768) Finset.univ (Iv_disjoint (by omega))
    ((Iv_union (by omega) (by omega)).trans Iv_univ)

/-! ## The tile -/

/-- The tile's slab of the result. -/
abbrev slab (L : grid0.Coords) : Finset S12582912.Idx := Iv (N := 12582912) (base L) (base L + 393216)

theorem rest_zero : (oLoc d ↦[slab L]{fullShare} o0 : sProp 𝕄) = rest d L o0 0 := by
  unfold rest
  rw [show pos L 0 0 = base L by unfold pos; omega, show pos L 12 0 = base L + 393216 by unfold pos; omega]
theorem done_zero : (iprop(emp) : sProp 𝕄) ⊢ done d L X 0 := by
  unfold done
  rw [show base L + 32768 * (0 - 1) = base L by omega, Iv_empty, pointsTo_empty]
theorem done_last : (done d L X 13 : sProp 𝕄) = oLoc d ↦[slab L]{fullShare} OUT X := by
  unfold done
  rw [show base L + 32768 * (13 - 1) = base L + 393216 by omega]
theorem outF_piece (o t : Nat) : (outF d L X o (pos L t o) : sProp 𝕄) = iprop(piece d L X o (t + 1) ∗ outAny (F := F) d L o) := rfl

theorem tripInv_last (q0 q1 : PosShare TreeShare) (tr : Buf (Elt F) (sR.view.loc (thr d L))) (tw : Buf (Elt F) (sW.view.loc (thr d L))) :
    tripInv d L X o0 q0 q1 tr tw O W 12 = iprop(Transfers.MayWaits (thr d L) (default : HIx 1) O
      ∗ (sR.view.loc (thr d L) ↦{fullShare} tr) ∗ (sW.view.loc (thr d L) ↦{fullShare} tw)
      ∗ (inAny (F := F) d L 0 ∗ (xLoc d ↦{q0} X) ∗ semVal (thr d L, .dma cellI0) 0) ∗ inAny (F := F) d L 16384 ∗ (xLoc d ↦{q1} X) ∗ semVal (thr d L, .dma cellI1) 0
      ∗ Fl d L cellO0 NO (outF d L X 0 (pos L 11 0)) ∗ Fl d L cellO1 NO (outF d L X 16384 (pos L 11 16384)) ∗ done d L X 12 ∗ rest d L o0 12 ∗ Ow d L O W) := by
  unfold tripInv
  rw [inSt_neg d L X q0 (by omega), outSt_succ, outSt_succ]

variable [FloatOps F]

set_option maxHeartbeats 4000000 in
theorem tile_body (q : PosShare TreeShare) (hF : (K (F := F)).Facts) (hO : ∀ g, O g none = 0) :
    (iprop(levAts (K (F := F)).L (K (F := F)).lev ∗ emp
        ∗ ((xLoc d ↦{q} X) ∗ (tLoc d ↦{q} (TAB : Buf (Elt F) (tLoc d))) ∗ oLoc d ↦[slab L]{fullShare} o0)
        ∗ scopedBufs (thr d L) ∗ scopedSems0 (thr d L) ∗ owes (thr d L) O W) : sProp 𝕄)
      ⊢ wp frame (wpE (defs₀ (F := F)) 𝒱₀ (thr d L) none) Set.univ
          (cc0__sc_body L xV (Memref.isWhole_whole _) tV (Memref.isWhole_whole _) oV (Memref.isWhole_whole _) sR (Memref.isWhole_whole _)
            sW (Memref.isWhole_whole _) bI (Memref.isWhole_whole _) bO (Memref.isWhole_whole _) cc0_scratch4 cc0_scratch5 cc0_scoped0 cc0_scoped1)
          fun _ => iprop(((xLoc d ↦{q} X) ∗ (tLoc d ↦{q} (TAB : Buf (Elt F) (tLoc d))) ∗ oLoc d ↦[slab L]{fullShare} OUT X)
            ∗ scopedBufs (thr d L) ∗ scopedSems0 (thr d L) ∗ ∃ W', ⌜∀ p ∈ W', p ∈ W ∨ p.2 = none⌝ ∗ owes (thr d L) O W') := by
  obtain ⟨RS, hRS⟩ := ownSems0_V (F := F) d L
  obtain ⟨RB, hRB⟩ := ownBufs_V (F := F) d L
  simp only [cc0__sc_body_eq_skeleton]
  unfold cc0__sc_body_skel
  simp only [k0_part2_eq_skeleton]
  rw [wp_bind]
  unfold k0_part2_skel
  simp only [Prog.lift, Prog.bind_op, Prog.bind_ret, Prog.pure_eq_ret]
  rw [(K (F := F)).scopedBufs_V hF d (cV L) (jV L), SparseCore.Cfg.scopedSems0_V (Val := Elt F) d (cV L) (jV L), hRS, hRB, rest_zero]
  iintro ⟨#Hlv, -, ⟨Hx, Ht, Hrest⟩, ⟨Hr, Hw, Hi, Ho, HB⟩, ⟨Hs0, Hs1, Ht0, Ht1, Hc0, Hc1, HS⟩, HO⟩
  ihave #Hmw := (show levAts (K (F := F)).L (K (F := F)).lev ⊢ (Transfers.MayWaits (thr d L) (default : HIx 1) O : sProp 𝕄) from
    (K (F := F)).mayWaits_none (thr := thr d L) hO) $$ Hlv
  ihave Hi := (in_halves d L).1 $$ Hi
  icases Hi with ⟨Hi0, Hi1⟩
  ihave Ho := (out_halves d L).1 $$ Ho
  icases Ho with ⟨Ho0, Ho1⟩
  ihave HO := (show (owes (thr d L) O W : sProp 𝕄) ⊢ Ow d L O W by
    unfold Ow
    iintro H
    iexists W
    iframe
    ipureintro
    exact fun _ h => .inl h) $$ HO
  -- the tables
  iapply (table_rule d L O W sR 0 q srcOf (fun p _ h => by rw [TAB_ix]; rw [Nat.zero_add]; rfl)) $$ Hmw Ht Hr Hc0 HO
  iintro Ht ⟨%tr, %hr, Hr⟩ Hc0 HO
  iapply (table_rule d L O W sW 16384 q dstOf (fun p _ h => by rw [TAB_ix]; rfl)) $$ Hmw Ht Hw Hc1 HO
  iintro Ht ⟨%tw, %hw, Hw⟩ Hc1 HO
  -- the first block
  ihave Hx := (pointsTo_share (PosShare.mem_left_op_right q)).1 $$ Hx
  icases Hx with ⟨Hx0, Hx1⟩
  iapply (load_rule d L X (n := pos L 0 0) _ (off_first L)) $$ Hx0 Hi0 Hs0
  iintro Hf
  ihave Hf := (Entails.of_eq (inSt_pos d L X q.left (t := 0) (by omega)).symm) $$ Hf
  ihave Hd := (done_zero d L X) $$ []
  · iempintro
  -- the trips
  iapply (Scf.wp_for_bind frame (wpE (defs₀ (F := F)) 𝒱₀ (thr d L) none) Set.univ _ _ _ _ _ _
    (fun k _ => tripInv d L X o0 q.left q.right tr tw O W k) (fun k _ => trip d L X o0 q.left q.right tr tw O W hr hw k)) $$ [Hr Hw Hf Hi1 Hx1 Hs1 Ho0 Ht0 Ho1 Ht1 Hd Hrest HO]
  · unfold tripInv
    rw [outSt_zero, outSt_zero]
    iframe
    iexact Hmw
  iintro %u HT
  ihave HT := (Entails.of_eq ((congrArg (tripInv d L X o0 q.left q.right tr tw O W) trips1).trans (tripInv_last d L X o0 O W q.left q.right tr tw))) $$ HT
  icases HT with ⟨-, Hr, Hw, ⟨Hi0, Hx0, Hs0⟩, Hi1, Hx1, Hs1, Ho0, Ho1, Hd, -, HO⟩
  -- the last two copies out
  iapply (wait_rule d L (R := outF d L X 0 (pos L 11 0)) (N := NO) rfl) $$ Hmw Ho0 HO
  iintro HF Ht0 HO
  ihave HF := (Entails.of_eq (outF_piece d L X 0 11)) $$ HF
  icases HF with ⟨Hp0, Ho0⟩
  rw [wp_ret]
  imodintro
  simp only [Prog.lift, Prog.bind_op, Prog.bind_ret, Prog.pure_eq_ret]
  iapply (wait_rule d L (R := outF d L X 16384 (pos L 11 16384)) (N := NO) rfl) $$ Hmw Ho1 HO
  iintro HF Ht1 HO
  ihave HF := (Entails.of_eq (outF_piece d L X 16384 11)) $$ HF
  icases HF with ⟨Hp1, Ho1⟩
  rw [wp_ret]
  imodintro
  ihave Hd := (done_step d L X 12) $$ [Hd Hp0 Hp1]
  · iframe
  ihave Hd := (Entails.of_eq (done_last d L X)) $$ Hd
  ihave Hx := (pointsTo_share (PosShare.mem_left_op_right q)).2 $$ [Hx0 Hx1]
  · iframe
  ihave Hi := (in_halves d L).2 $$ [Hi0 Hi1]
  · iframe
  ihave Ho := (out_halves d L).2 $$ [Ho0 Ho1]
  · iframe
  unfold Ow
  iframe
  isplitl [Hr]
  · iexists tr; iexact Hr
  · iexists tw; iexact Hw

end Body

end Cert.Proof.K

end
-- ==== Proof.Launch.lean ====
/-
  The launch: what the call takes and brings back, how each SparseCore's part is dealt to its sixteen tiles, @main's steps,
  and the run of the whole program with what it leaves.
-/
module

public import proofs.«01_k».proof.Proof.Body

@[expose] public section

noncomputable section

namespace Cert.Proof.K

open Cert.KernelIdeal Cert.KernelIdeal.Gen Cert.Proof.Tables

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays' contents -/

abbrev aLoc (d : Dev nD) : Loc nD τ sig := (SparseCore.T d).loc main_arg0
abbrev rLoc (d : Dev nD) : Loc nD τ sig := (SparseCore.T d).loc main_v2

/-- An argument laid flat; the whole program's result of an argument. -/
def flat (x : S16x192x4096.Idx → Elt F .f32) : S12582912.Idx → Elt F .f32 := shapeCast S12582912 x shapeCasts_S16x192x4096_S12582912
def RES (x : S16x192x4096.Idx → Elt F .f32) : S16x192x64x64.Idx → Elt F .f32 :=
  shapeCast S16x192x64x64 (OUT (flat x)) shapeCasts_S12582912_S16x192x64x64

/-! ## The slabs -/

/-- Tile `i`'s slab on SparseCore `c`; the slabs of SparseCore `c`. -/
def sl (c i : Nat) : Finset S12582912.Idx := Iv (N := 12582912) (786432 * i + 393216 * c) (786432 * i + 393216 * c + 393216)
def coreSet (c : Nat) : Finset S12582912.Idx := (Finset.univ : Finset (Fin 16)).biUnion fun i => sl c i.val

theorem mem_sl {c i : Nat} {x : S12582912.Idx} : x ∈ sl c i ↔ 786432 * i + 393216 * c ≤ (x 0).val ∧ (x 0).val < 786432 * i + 393216 * c + 393216 := mem_Iv
theorem mem_coreSet {c : Nat} {x : S12582912.Idx} : x ∈ coreSet c ↔ ∃ i : Fin 16, x ∈ sl c i.val := by
  unfold coreSet; rw [Finset.mem_biUnion]
  exact ⟨fun ⟨i, _, h⟩ => ⟨i, h⟩, fun ⟨i, h⟩ => ⟨i, Finset.mem_univ _, h⟩⟩
theorem sl_disjoint {c c' i i' : Nat} (hc : c < 2) (hc' : c' < 2) (h : c ≠ c' ∨ i ≠ i') : Disjoint (sl c i) (sl c' i') := by
  rw [Finset.disjoint_left]; intro x h1 h2; rw [mem_sl] at h1 h2; omega
theorem core_disjoint : ∀ c ∈ (Finset.univ : Finset (Fin 2)), ∀ c' ∈ (Finset.univ : Finset (Fin 2)), c ≠ c' → Disjoint (coreSet c.val) (coreSet c'.val) := by
  intro c _ c' _ h
  rw [Finset.disjoint_left]; intro x h1 h2
  obtain ⟨i, h1⟩ := mem_coreSet.1 h1
  obtain ⟨i', h2⟩ := mem_coreSet.1 h2
  exact Finset.disjoint_left.1 (sl_disjoint c.isLt c'.isLt (.inl fun e => h (Fin.ext e))) h1 h2
theorem core_cover : (Finset.univ : Finset (Fin 2)).biUnion (fun c => coreSet c.val) = Finset.univ := by
  ext x
  have hx : (x 0).val < 12582912 := idx_lt x
  refine iff_of_true ?_ (Finset.mem_univ _)
  rw [Finset.mem_biUnion]
  refine ⟨⟨(x 0).val / 393216 % 2, by omega⟩, Finset.mem_univ _, mem_coreSet.2 ⟨⟨(x 0).val / 786432, by omega⟩, mem_sl.2 ?_⟩⟩
  dsimp only
  omega

theorem out_cores (d : Dev nD) (f : Buf (Elt F) (oLoc d)) :
    (oLoc d ↦{fullShare} f : sProp 𝕄) = bigSep Finset.univ fun c : Fin 2 => oLoc d ↦[coreSet c.val]{fullShare} f := by
  rw [← pointsTo_biUnion Finset.univ (ℓ := oLoc d) (fun c : Fin 2 => coreSet c.val) core_disjoint, core_cover]; try rfl
theorem out_tiles (d : Dev nD) (c : Nat) (hc : c < 2) (f : Buf (Elt F) (oLoc d)) :
    (oLoc d ↦[coreSet c]{fullShare} f : sProp 𝕄) = bigSep Finset.univ fun i : Fin 16 => oLoc d ↦[sl c i.val]{fullShare} f :=
  pointsTo_biUnion Finset.univ (ℓ := oLoc d) (fun i : Fin 16 => sl c i.val) fun i _ i' _ h => sl_disjoint hc hc (.inr fun e => h (Fin.ext e))

/-! ## What the handshakes carry -/

section Launch

variable (m : (ℓ : Loc nD τ sig) → Buf (Elt F) ℓ)

/-- The share of what is only read that SparseCore `c` gets, and its tile `i`. -/
abbrev qC (c : Nat) : PosShare TreeShare := Transfers.shareTokN fullShare c
abbrev qT (c i : Nat) : PosShare TreeShare := Transfers.shareTokN (qC c) i

abbrev xPts (d : Dev nD) (q : PosShare TreeShare) : sProp 𝕄 := xLoc d ↦{q} (flat (m (aLoc d)) : Buf (Elt F) (xLoc d))
abbrev tPts (d : Dev nD) (q : PosShare TreeShare) : sProp 𝕄 := tLoc d ↦{q} (TAB : Buf (Elt F) (tLoc d))
abbrev corePts (d : Dev nD) (c : Nat) (f : Buf (Elt F) (oLoc d)) : sProp 𝕄 :=
  iprop(xPts m d (qC c) ∗ tPts (F := F) d (qC c) ∗ oLoc d ↦[coreSet c]{fullShare} f)
abbrev tilePts (d : Dev nD) (c i : Nat) (f : Buf (Elt F) (oLoc d)) : sProp 𝕄 :=
  iprop(xPts m d (qT c i) ∗ tPts (F := F) d (qT c i) ∗ oLoc d ↦[sl c i]{fullShare} f)

/-- The call takes, per SparseCore, its shares of the argument and the tables and its slabs of the result at anything; it
    brings them back with the slabs at the result. -/
def P : (K (F := F)).Pay (nD := nD) (Val := Elt F) (Name := ℕ) (U := UU) where
  st := fun q d c => match q with | 0 => corePts m d c.val (m (oLoc d))
  dn := fun q d c => match q with | 0 => corePts m d c.val (OUT (flat (m (aLoc d))))
  go := fun q d c i => match q with | 0 => tilePts m d c.val i.val (m (oLoc d))
  td := fun q d c i => match q with | 0 => tilePts m d c.val i.val (OUT (flat (m (aLoc d))))
  x := fun _ _ => iprop(emp)

instance P_storable : (P (F := F) m).IsStorable where
  st q d c := match q with | 0 => (inferInstance : BI.Storable (upEmb : UEmb _ 𝕄) (corePts m d c.val (m (oLoc d))))
  dn q d c := match q with | 0 => (inferInstance : BI.Storable (upEmb : UEmb _ 𝕄) (corePts m d c.val (OUT (flat (m (aLoc d))))))
  go q d c i := match q with | 0 => (inferInstance : BI.Storable (upEmb : UEmb _ 𝕄) (tilePts m d c.val i.val (m (oLoc d))))
  td q d c i := match q with | 0 => (inferInstance : BI.Storable (upEmb : UEmb _ 𝕄) (tilePts m d c.val i.val (OUT (flat (m (aLoc d))))))

theorem share_tiles {ℓ : Loc nD τ sig} (f : Buf (Elt F) ℓ) (q : PosShare TreeShare) (n : Nat) :
    (ℓ ↦{q} f : sProp 𝕄) ⊢ iprop((bigSep Finset.univ fun i : Fin n => ℓ ↦{Transfers.shareTokN q i.val} f)
      ∗ ((bigSep Finset.univ fun i : Fin n => ℓ ↦{Transfers.shareTokN q i.val} f) -∗ ℓ ↦{q} f)) := by
  refine (Transfers.pointsTo_toks_split q n).trans ?_
  iintro ⟨Hd, Ht⟩
  iframe Ht
  iintro Ht
  iapply (Transfers.pointsTo_toks_join q n) $$ [Hd Ht]
  iframe

theorem vecSplit : (K (F := F)).VecSplit' (P m) 0 := by
  intro d c
  show corePts m d c.val (m (oLoc d)) ⊢ |={Set.univ}=> iprop(
      (bigSep (Finset.univ : Finset (Fin 16)) fun i => tilePts m d c.val i.val (m (oLoc d)))
      ∗ ((bigSep (Finset.univ : Finset (Fin 16)) fun i => tilePts m d c.val i.val (OUT (flat (m (aLoc d)))))
          -∗ corePts m d c.val (OUT (flat (m (aLoc d))))))
  have hc : c.val < 2 := c.isLt
  unfold corePts tilePts
  rw [bigSep_sep', bigSep_sep', bigSep_sep', bigSep_sep', out_tiles d c.val hc, out_tiles d c.val hc]
  iintro ⟨Hx, Ht, Ho⟩
  ihave Hx := (share_tiles _ _ 16) $$ Hx
  icases Hx with ⟨Hx, Hxk⟩
  ihave Ht := (share_tiles _ _ 16) $$ Ht
  icases Ht with ⟨Ht, Htk⟩
  imodintro
  isplitl [Hx Ht Ho]
  · iframe
  iintro ⟨Hx, Ht, Ho⟩
  isplitl [Hx Hxk]
  · iapply Hxk $$ Hx
  isplitl [Ht Htk]
  · iapply Htk $$ Ht
  iexact Ho

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) tV (Memref.isWhole_whole _) oV (Memref.isWhole_whole _) sR (Memref.isWhole_whole _)
          sW (Memref.isWhole_whole _) bI (Memref.isWhole_whole _) bO (Memref.isWhole_whole _) cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'
  isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (flat (m (aLoc d))) (m (oLoc d)) O W (qT c.val i.val) hF hO).trans (wp_mono frame _ _ fun _ => obl_post)

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev t' : DevRef τ sig := Proc.devRef .tc (main_c : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opTab : HloOp τ sig (Elt F) := StableHlo.nullary main_c (fun i => lit0 (S32768.rowMajor i))
abbrev opIn : HloOp τ sig (Elt F) := StableHlo.reshape main_arg0 main_v0 (rfl : (.f32 : EltTy) = .f32) shapeCasts_S16x192x4096_S12582912
abbrev opOut : HloOp τ sig (Elt F) := StableHlo.reshape main_v1 main_v2 (rfl : (.f32 : EltTy) = .f32) shapeCasts_S12582912_S16x192x64x64

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_c) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_c, main_v0, main_v1, main_v2} by decide,
    SparseCore.bigSep_insert' (by decide), SparseCore.bigSep_insert' (by decide), SparseCore.bigSep_insert' (by decide),
    SparseCore.bigSep_insert' (by decide), bigSep_singleton]

/-- The launch contents; and with the result's flat array at the result. -/
def V0 (d : Dev nD) : Valuation τ sig (Elt F) := fun b => m (d, b)
def V1 (d : Dev nD) : Valuation τ sig (Elt F) := Function.update (V0 m d) o' (OUT (flat (m (aLoc d))))

omit [FloatOps F] in
theorem held_t (d : Dev nD) (W : Valuation τ sig (Elt F)) : (StableHlo.held (T d) {t'} W : sProp 𝕄) = (tLoc d ↦{fullShare} W t') := by
  unfold StableHlo.held
  rw [bigSep_singleton]
omit [FloatOps F] in
theorem held_in (d : Dev nD) (W : Valuation τ sig (Elt F)) :
    (StableHlo.held (T d) {a', x'} W : sProp 𝕄) = iprop((aLoc d ↦{fullShare} W a') ∗ xLoc d ↦{fullShare} W x') := by
  unfold StableHlo.held
  rw [SparseCore.bigSep_insert' (by decide), bigSep_singleton]
omit [FloatOps F] in
theorem held_out (d : Dev nD) (W : Valuation τ sig (Elt F)) :
    (StableHlo.held (T d) {o', r'} W : sProp 𝕄) = iprop((oLoc d ↦{fullShare} W o') ∗ rLoc d ↦{fullShare} W r') := by
  unfold StableHlo.held
  rw [SparseCore.bigSep_insert' (by decide), bigSep_singleton]

omit [FloatOps F] in
theorem after_tab (d : Dev nD) : ((opTab (F := F)).result (V0 m d) t' : S32768.Idx → BitVec 32) = TAB :=
  (StableHlo.nullary_result' _ _ _).trans (by unfold TAB; rfl)
omit [FloatOps F] in
theorem after_in (d : Dev nD) : (opIn (F := F)).result (V0 m d) x' = flat (m (aLoc d)) := StableHlo.reshape_result' _ _ _ _ _
omit [FloatOps F] in
theorem after_in_arg (d : Dev nD) : (opIn (F := F)).result (V0 m d) a' = m (aLoc d) := StableHlo.reshape_result_ne' _ _ _ _ _ (by decide)
omit [FloatOps F] in
theorem V1_o (d : Dev nD) : V1 m d o' = OUT (flat (m (aLoc d))) := Function.update_self _ _ _
omit [FloatOps F] in
theorem V1_r (d : Dev nD) : V1 m d r' = m (rLoc d) := Function.update_of_ne (show r' ≠ o' by decide) _ _
omit [FloatOps F] in
theorem after_out (d : Dev nD) : (opOut (F := F)).result (V1 m d) r' = RES (m (aLoc d)) :=
  (StableHlo.reshape_result' _ _ _ _ _).trans (by rw [V1_o]; rfl)

omit [FloatOps F] in
theorem held_after_in (d : Dev nD) : (StableHlo.held (T d) {a', x'} ((opIn (F := F)).result (V0 m d)) : sProp 𝕄)
    = iprop((aLoc d ↦{fullShare} m (aLoc d)) ∗ xPts m d fullShare) := by
  rw [held_in, after_in, after_in_arg]
omit [FloatOps F] in
theorem held_after_out (d : Dev nD) : (StableHlo.held (T d) {o', r'} ((opOut (F := F)).result (V1 m d)) : sProp 𝕄)
    = iprop((oLoc d ↦{fullShare} (opOut (F := F)).result (V1 m d) o') ∗ rLoc d ↦{fullShare} (RES (m (aLoc d)) : Buf (Elt F) (rLoc d))) := by
  rw [held_out, after_out]

/-- What the call takes, and what it hands back. -/
theorem st0_eq (d : Dev nD) : (bigSep Finset.univ fun c : Fin ((K (F := F)).nCore 0) => (P m).st 0 d c)
    = iprop((bigSep Finset.univ fun c : Fin 2 => xPts m d (qC c.val)) ∗ (bigSep Finset.univ fun c : Fin 2 => tPts (F := F) d (qC c.val)) ∗ oLoc d ↦{fullShare} m (oLoc d)) := by
  show (bigSep (Finset.univ : Finset (Fin 2)) fun c => corePts m d c.val (m (oLoc d))) = _
  unfold corePts
  rw [bigSep_sep', bigSep_sep', out_cores d (m (oLoc d))]
theorem dn0_eq (d : Dev nD) : (bigSep Finset.univ fun c : Fin ((K (F := F)).nCore 0) => (P m).dn 0 d c)
    = iprop((bigSep Finset.univ fun c : Fin 2 => xPts m d (qC c.val)) ∗ (bigSep Finset.univ fun c : Fin 2 => tPts (F := F) d (qC c.val))
      ∗ oLoc d ↦{fullShare} OUT (flat (m (aLoc d)))) := by
  show (bigSep (Finset.univ : Finset (Fin 2)) fun c => corePts m d c.val (OUT (flat (m (aLoc d))))) = _
  unfold corePts
  rw [bigSep_sep', bigSep_sep', out_cores d (OUT (flat (m (aLoc d))))]

variable (ρ : Dev nD → PrngReg)

/-- What @main leaves: the argument as it was, the result. -/
abbrev FIN (d : Dev nD) : sProp 𝕄 := iprop((aLoc d ↦{fullShare} m (aLoc d)) ∗ rLoc d ↦{fullShare} (RES (m (aLoc d)) : Buf (Elt F) (rLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ht, Hx, Ho, Hr⟩, Hts, -⟩, -⟩
  -- the tables, the argument laid flat
  iapply (StableHlo.wp_hlo_within 𝒱 (SparseCore.T d) none Set.univ (op := opTab) (S := {t'}) subset_rfl (V := V0 m d)) $$ [Hb Ht]
  · isplitl [Hb]; · iexact Hb
    rw [held_t]
    iexact Ht
  iintro ⟨Hb, Ht⟩
  ihave Ht := (Entails.of_eq ((held_t d _).trans (congrArg (fun f : Buf (Elt F) (tLoc d) => (tLoc d ↦{fullShare} f : sProp 𝕄)) (after_tab m d)))) $$ Ht
  rw [wp_ret]
  imodintro
  iapply (StableHlo.wp_hlo_within 𝒱 (SparseCore.T d) none Set.univ (op := opIn) (S := {a', x'}) subset_rfl (V := V0 m d)) $$ [Hb Ha Hx]
  · isplitl [Hb]; · iexact Hb
    rw [held_in]
    isplitl [Ha]
    · iexact Ha
    · iexact Hx
  iintro ⟨Hb, Hin⟩
  ihave Hin := (Entails.of_eq (held_after_in m d)) $$ Hin
  rw [wp_ret]
  icases Hin with ⟨Ha, Hx⟩
  imodintro
  -- the call
  ihave Hx := (share_tiles _ fullShare 2) $$ Hx
  icases Hx with ⟨Hx, -⟩
  ihave Ht := (share_tiles _ fullShare 2) $$ Ht
  icases Ht with ⟨Ht, -⟩
  iapply ((K (F := F)).wp_run (D (F := F)) 𝒱 (EH := EH) (P := P m) κ d 0) $$ [Hst Hx Ht Ho Hb Hts Ha Hr]
  isplitr; · iexact Hctx
  isplitl [Hst]; · iexact Hst
  isplitl [Hx Ht Ho]
  · rw [st0_eq]
    isplitl [Hx]; · iexact Hx
    isplitl [Ht]; · iexact Ht
    iexact Ho
  iintro ⟨Hst, Hdn⟩
  ihave Hdn := (Entails.of_eq (dn0_eq m d)) $$ Hdn
  icases Hdn with ⟨-, -, Ho⟩
  -- the result laid out
  iapply (StableHlo.wp_hlo_within 𝒱 (SparseCore.T d) none Set.univ (op := opOut) (S := {o', r'}) subset_rfl (V := V1 m d)) $$ [Hb Ho Hr]
  · isplitl [Hb]; · iexact Hb
    rw [held_out, V1_o, V1_r]
    isplitl [Ho]
    · iexact Ho
    · iexact Hr
  iintro ⟨Hb, Hout⟩
  ihave Hout := (Entails.of_eq (held_after_out m d)) $$ Hout
  rw [wp_ret]
  icases Hout with ⟨-, Hr⟩
  imodintro
  imodintro
  isplitl [Hst]; · iexact Hst
  isplitr [Hb Hts]
  · isplitl [Ha]; · iexact Ha
    iexact Hr
  isplitl [Hb] <;> iassumption

def fq (d : Dev nD) (s' : Phys nD τ sig (Elt F)) : Prop := s'.mem.mem (aLoc d) = m (aLoc d) ∧ s'.mem.mem (rLoc d) = RES (m (aLoc d))

omit [FloatOps F] in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := RES (m (aLoc d)))) $$ [HSI Hr]
  · isplitl [HSI] <;> iassumption
  icases H with %h2
  ipureintro
  exact ⟨funext fun i => h1 i (Finset.mem_univ i), funext fun i => h2 i (Finset.mem_univ i)⟩

/-! ## The program's run -/

/-- The argument as it was, the result, every semaphore at zero. -/
def QC : PUnit × MemSt nD τ sig (Elt F) → Prop :=
  fun r => (∀ c : Dev nD, r.2.mem (aLoc c) = m (aLoc c) ∧ r.2.mem (rLoc c) = RES (m (aLoc c))) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.K

end
-- ==== Proof.RefValue.lean ====
/-
  The reference's value. The reference scatters the positions of each row to where their Morton code says and reshapes.
  Read at an index, its result is the argument at the position the code sends there, which is the kernel's result too.
-/
module

public import proofs.«01_k».proof.Proof.Launch
public import proofs.«01_k».proof.Proof.Gen.ReferenceIdeal.Run
public import Idealize.ShloMosaic.Lib.Routing.OpsSet

@[expose] public section

noncomputable section

namespace Cert.Proof.R

open Cert.ReferenceIdeal Cert.ReferenceIdeal.Gen Cert.Proof.Tables
open Idealize.ShloMosaic Idealize.ShloMosaic.ValueIdx

variable {F : FTy → Type} [FloatOps F]

/-! ## The index the reference computes for a position -/

/-- Bit `k` of a position, moved to place `p`. -/
def bit (x k p : BitVec 32) : BitVec 32 := IntOp.shli .host (IntOp.andi (IntOp.shrsi .host x k) 1#32) p

/-- The row: the odd bits packed. -/
def rowOf (x : BitVec 32) : BitVec 32 :=
  IntOp.addi (IntOp.addi (IntOp.addi (IntOp.addi (IntOp.addi (IntOp.addi 0#32 (bit x 1#32 0#32)) (bit x 3#32 1#32)) (bit x 5#32 2#32))
    (bit x 7#32 3#32)) (bit x 9#32 4#32)) (bit x 11#32 5#32)

/-- The column: the even bits packed. -/
def colOf (x : BitVec 32) : BitVec 32 :=
  IntOp.addi (IntOp.addi (IntOp.addi (IntOp.addi (IntOp.addi (IntOp.addi (IntOp.addi 0#32 (bit x 0#32 0#32)) (bit x 2#32 1#32)) (bit x 4#32 2#32))
    (bit x 6#32 3#32)) (bit x 8#32 4#32)) (bit x 10#32 5#32)) (bit x 12#32 6#32)

/-- Row times 64 plus column. -/
def linOf (x : BitVec 32) : BitVec 32 := IntOp.addi (IntOp.muli (rowOf x) 64#32) (colOf x)

/-- The index as the scatter reads it: 4096 is added to a negative one. -/
def wordOf (x : BitVec 32) : BitVec 32 :=
  Scalar.select (IntOp.cmpi .slt (linOf x) 0#32) (IntOp.addi (linOf x) 4096#32) (linOf x)

/-- The index of a position below 4096, read signed, is its Morton code. -/
theorem wordOf_mort : ∀ s : Fin 4096, (wordOf (BitVec.ofNat 32 s.val)).toInt = (mort s.val : Int) := by decide +kernel

/-! ## Where an update lands -/

abbrev dims : ScatterDims S16x192x4096 S4096x1 S16x192x4096 := scatter_S16x192x4096_S4096x1_S16x192x4096_01_2_2_1

/-- The place in the index array that holds position `s`'s index. -/
def at1 (s : Fin 4096) : S4096x1.Idx
  | ⟨0, _⟩ => s
  | ⟨1, _⟩ => (0 : Fin 1)

/-- The index (b, c, y). -/
def at3 (b : Fin 16) (c : Fin 192) (y : Fin 4096) : S16x192x4096.Idx
  | ⟨0, _⟩ => b
  | ⟨1, _⟩ => c
  | ⟨2, _⟩ => y

theorem at3_eta (k : S16x192x4096.Idx) : at3 (k 0) (k 1) (k 2) = k := by
  funext a
  match a with
  | ⟨0, _⟩ => rfl
  | ⟨1, _⟩ => rfl
  | ⟨2, _⟩ => rfl

theorem window0 (k : S16x192x4096.Idx) : dims.window k 0 = (k 0).val := rfl
theorem window1 (k : S16x192x4096.Idx) : dims.window k 1 = (k 1).val := rfl
theorem window2 (k : S16x192x4096.Idx) : dims.window k 2 = 0 := rfl

theorem siIdx_eq (k : S16x192x4096.Idx) (c : Fin dims.scatterDimsToOperandDims.length) : dims.siIdx k c = at1 (k 2) := by
  funext b
  match b with
  | ⟨0, _⟩ => rfl
  | ⟨1, _⟩ => exact Subsingleton.elim (α := Fin 1) _ _

theorem start0 (k : S16x192x4096.Idx) (idx : IVec S4096x1 32) : dims.start k idx 0 = 0 := rfl
theorem start1 (k : S16x192x4096.Idx) (idx : IVec S4096x1 32) : dims.start k idx 1 = 0 := rfl
theorem start2 (k : S16x192x4096.Idx) (idx : IVec S4096x1 32) (h : ∀ s : Fin 4096, (idx (at1 s)).toInt = (mort s.val : Int)) :
    dims.start k idx 2 = (mort (k 2).val : Int) :=
  (congrArg (fun i => (idx i).toInt) (siIdx_eq k _)).trans (h (k 2))

/-- An update lands at an index when the batch and the channel agree and its position's index is the last coordinate. -/
theorem lands (k ι : S16x192x4096.Idx) (idx : IVec S4096x1 32) (h : ∀ s : Fin 4096, (idx (at1 s)).toInt = (mort s.val : Int)) :
    dims.resultIdx? k idx = some ι ↔ (k 0).val = (ι 0).val ∧ (k 1).val = (ι 1).val ∧ mort (k 2).val = (ι 2).val := by
  rw [Routing.resultIdx?_eq_some]
  constructor
  · intro q
    have q0 := q 0
    have q1 := q 1
    have q2 := q 2
    rw [start0, window0] at q0
    rw [start1, window1] at q1
    rw [start2 k idx h, window2] at q2
    omega
  · rintro ⟨q0, q1, q2⟩ a
    match a with
    | ⟨0, _⟩ =>
      show dims.start k idx 0 + (dims.window k 0 : Int) = ((ι 0).val : Int)
      rw [start0, window0]; omega
    | ⟨1, _⟩ =>
      show dims.start k idx 1 + (dims.window k 1 : Int) = ((ι 1).val : Int)
      rw [start1, window1]; omega
    | ⟨2, _⟩ =>
      show dims.start k idx 2 + (dims.window k 2 : Int) = ((ι 2).val : Int)
      rw [start2 k idx h, window2]; omega

/-- The scattered array at (b, c, y) is the argument at (b, c, the position whose code is y). -/
theorem scattered {α : Type} (x0 x : S16x192x4096.Idx → α) (idx : IVec S4096x1 32)
    (h : ∀ s : Fin 4096, (idx (at1 s)).toInt = (mort s.val : Int)) (ι : S16x192x4096.Idx) :
    Host.scatter dims (fun _ b => b) x0 idx x ι = x (at3 (ι 0) (ι 1) ⟨unmort (ι 2).val, unmort_lt (ι 2)⟩) := by
  refine Routing.scatter_set_hit dims x0 idx x ι _ (fun k hk => congrArg x ?_)
    (at3 (ι 0) (ι 1) ⟨unmort (ι 2).val, unmort_lt (ι 2)⟩) ((lands _ ι idx h).2 ⟨rfl, rfl, mort_unmort (ι 2)⟩)
  obtain ⟨q0, q1, q2⟩ := (lands k ι idx h).1 hk
  have q : unmort (ι 2).val = (k 2).val := by rw [← q2]; exact unmort_mort (k 2)
  refine (at3_eta k).symm.trans ?_
  rw [Fin.ext q0, Fin.ext q1]
  exact congrArg (at3 (ι 0) (ι 1)) (Fin.ext q.symm)

/-! ## The two results are one -/

theorem pos3 (u : S16x192x4096.Idx) : (S16x192x4096.rowMajor u).val = ((u 0).val * 192 + (u 1).val) * 4096 + (u 2).val :=
  Shape.rowMajor_val_three u
theorem pos1 (v : Cert.KernelIdeal.S12582912.Idx) : (Cert.KernelIdeal.S12582912.rowMajor v).val = (v 0).val := Shape.rowMajor_val_one v

/-- The argument's place and the flat place it is read from, at row-major positions that agree. -/
theorem pos_eq (u : S16x192x4096.Idx) (v : Cert.KernelIdeal.S12582912.Idx)
    (h : (S16x192x4096.rowMajor u).val = (Cert.KernelIdeal.S12582912.rowMajor v).val) (hv : srcPos (v 0).val < 12582912) :
    (S16x192x4096.rowMajor (at3 (u 0) (u 1) ⟨unmort (u 2).val, unmort_lt (u 2)⟩)).val
      = (Cert.KernelIdeal.S12582912.rowMajor (Cert.Proof.K.ix (srcPos (v 0).val) hv)).val := by
  rw [pos3, pos1] at h
  refine (pos3 _).trans (Eq.trans ?_ (pos1 _).symm)
  show ((u 0).val * 192 + (u 1).val) * 4096 + unmort (u 2).val = srcPos (v 0).val
  have h2 : (u 2).val < 4096 := (u 2).isLt
  rw [← h]
  unfold srcPos
  generalize (u 0).val * 192 + (u 1).val = r
  rw [show (r * 4096 + (u 2).val) / 4096 = r by omega, show (r * 4096 + (u 2).val) % 4096 = (u 2).val by omega]

/-- A scatter of the argument, reshaped, is the kernel's result. -/
theorem reshaped (x0 x : S16x192x4096.Idx → Elt F .f32) (idx : IVec S4096x1 32)
    (h : ∀ s : Fin 4096, (idx (at1 s)).toInt = (mort s.val : Int)) :
    shapeCast S16x192x64x64 (Host.scatter dims (fun _ b => b) x0 idx x) shapeCasts_S16x192x4096_S16x192x64x64 = Cert.Proof.K.RES x := by
  funext j
  unfold Cert.Proof.K.RES Cert.Proof.K.OUT Cert.Proof.K.flat shapeCast
  rw [scattered x0 x idx h]
  refine congrArg x (S16x192x4096.rowMajor.injective (Fin.ext ?_))
  exact (pos_eq _ _ ((Shape.rowMajor_reshapeEquiv _ _).trans (Shape.rowMajor_reshapeEquiv _ _).symm) _).trans
    (Shape.rowMajor_reshapeEquiv _ _).symm

/-- The reference's result, for an argument. -/
theorem res_eq (m : (ℓ : Loc nD τ sig) → Buf (Elt F) ℓ) (c : Dev nD) :
    Value.res_out0 m c = Cert.Proof.K.RES (m ((c.tc : Thread nD τ).loc main_arg0)) := by
  unfold Value.res_out0 Value.res_main_v105
  exact reshaped _ _ _ fun s => (congrArg BitVec.toInt (show _ = wordOf (BitVec.ofNat 32 s.val) from rfl)).trans (wordOf_mort s)

end Cert.Proof.R

end
-- ==== Proof.lean ====
/-
  The proof of `Cert.Claim`: the frames of the kernel, of its idealization and of the reference; that the idealization
  rewrites nothing; and that the kernel and the reference compute the same array. The kernel's run is proved once, over
  any float values (Proof/Launch.lean), and each claim about the kernel reads it.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem

/-- The kernel's frame: its run, read at the argument and at the counters. -/
theorem frame_kernel : Cert.quiescent_Kernel := fun m ρ _ =>
  (θ_run Cert.KernelIdeal.defs _ _).mono (fun _ h => ⟨fun c => (h.1 c).1, h.2⟩) (K.run_main (F := Bits) m ρ)

/-- The same for its idealization. -/
theorem frame_kernelIdeal : Cert.quiescent_KernelIdeal := fun m ρ _ =>
  (θ_run Cert.KernelIdeal.defs _ _).mono (fun _ h => ⟨fun c => (h.1 c).1, h.2⟩) (K.run_main (F := Ideal) m ρ)

/-- The reference's frame; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization and the reference return one array, `K.RES` of the argument. -/
theorem algebraic : Cert.algebraic_KernelIdeal_ReferenceIdeal := by
  intro m ρ m' ρ' _ hagree
  refine ⟨fun c => K.RES (m (K.aLoc c)), ?_, ?_⟩
  · exact (θ_run Cert.KernelIdeal.defs _ _).mono (fun _ h c => ⟨(h.1 c).2, (h.1 c).1⟩) (K.run_main (F := Ideal) m ρ)
  · exact (θ_run Cert.ReferenceIdeal.defs _ _).mono
      (fun _ h c => ⟨((h c).1.trans (R.res_eq m' c)).trans (congrArg K.RES (hagree c)), (h c).2⟩)
      (Cert.ReferenceIdeal.Value.run (F := Ideal) m' ρ')

/-- All five claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
